-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S320000x128 : Shape := ⟨2, ![320000, 128]⟩
abbrev S320000 : Shape := ⟨1, ![320000]⟩
abbrev S10000x128 : Shape := ⟨2, ![10000, 128]⟩
abbrev S_ : Shape := ⟨0, ![]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩

class Facts : Prop where
  bcast_S_S320000 : S_.BroadcastsInDim S320000 (![] : Fin 0 → Fin S320000.rank)
  reducesTo_S320000_S_d0 : S320000.ReducesTo [0] S_
  h_S_ : 0 < S_.numel

variable [Facts]

def fn {F : FTy → Type} [FloatOps F] (main_arg0 : FVec F S320000x128 .f32) (main_arg1 : IVec S320000 32) (main_arg2 : FVec F S10000x128 .f32) (main_arg3 : IVec S_ 32) (main_arg4 : FVec F S128x32 .f32) (main_arg5 : FVec F S32 .f32) (main_arg6 : FVec F S32x64 .f32) (main_arg7 : FVec F S64 .f32) (main_arg8 : FVec F S64x128 .f32) (main_arg9 : FVec F S128 .f32) : IVec S_ 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 32 := constantI S_ 32 10000#32
  let main_v2 : IVec S320000 32 := broadcastInDim S320000 ![] bcast_S_S320000 main_c_0
  let main_v3 : IVec S320000 1 := cmpi .slt main_arg1 main_v2
  let main_v4 : IVec S320000 1 := andi main_v1 main_v3
  let main_c_1 : IVec S_ 1 := constantI S_ 1 1#1
  let main_v5 : IVec S_ 1 := (fun x v => Host.reduce IntOp.andi x v reducesTo_S320000_S_d0 h_S_) main_v4 main_c_1
  main_v5
-- ==== Kernel.lean ====
abbrev S320000x128 : Shape := ⟨2, ![320000, 128]⟩
abbrev S320000 : Shape := ⟨1, ![320000]⟩
abbrev S10000x128 : Shape := ⟨2, ![10000, 128]⟩
abbrev S_ : Shape := ⟨0, ![]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S25x1x12800 : Shape := ⟨3, ![25, 1, 12800]⟩
abbrev S1x32 : Shape := ⟨2, ![1, 32]⟩
abbrev S1x64 : Shape := ⟨2, ![1, 64]⟩
abbrev S1x128 : Shape := ⟨2, ![1, 128]⟩
abbrev S12800x128 : Shape := ⟨2, ![12800, 128]⟩
abbrev S1x1x12800 : Shape := ⟨3, ![1, 1, 12800]⟩
abbrev S10512x128 : Shape := ⟨2, ![10512, 128]⟩
abbrev S1x12800 : Shape := ⟨2, ![1, 12800]⟩
abbrev S1 : Shape := ⟨1, ![1]⟩
abbrev S1x1x1 : Shape := ⟨3, ![1, 1, 1]⟩
abbrev S512x12800 : Shape := ⟨2, ![512, 12800]⟩
abbrev S512 : Shape := ⟨1, ![512]⟩
abbrev S512x1 : Shape := ⟨2, ![512, 1]⟩
abbrev S12800x32 : Shape := ⟨2, ![12800, 32]⟩
abbrev S12800x64 : Shape := ⟨2, ![12800, 64]⟩
abbrev S512x128 : Shape := ⟨2, ![512, 128]⟩

abbrev nBuf : Space → Nat
  | .hbm => 15
  | .vmem => 13
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S10000x128, .f32⟩
  | .hbm, ⟨3, _⟩ => ⟨S_, .i32⟩
  | .hbm, ⟨4, _⟩ => ⟨S128x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S64x128, .f32⟩
  | .hbm, ⟨9, _⟩ => ⟨S128, .f32⟩
  | .hbm, ⟨10, _⟩ => ⟨S25x1x12800, .i32⟩
  | .hbm, ⟨11, _⟩ => ⟨S1x32, .f32⟩
  | .hbm, ⟨12, _⟩ => ⟨S1x64, .f32⟩
  | .hbm, ⟨13, _⟩ => ⟨S1x128, .f32⟩
  | .hbm, ⟨14, _⟩ => ⟨S10000x128, .f32⟩
  | .local _ .vmem, ⟨0, _⟩ => ⟨S12800x128, .f32⟩
  | .local _ .vmem, ⟨1, _⟩ => ⟨S12800x128, .f32⟩
  | .local _ .vmem, ⟨2, _⟩ => ⟨S1x1x12800, .i32⟩
  | .local _ .vmem, ⟨3, _⟩ => ⟨S1x1x12800, .i32⟩
  | .local _ .vmem, ⟨4, _⟩ => ⟨S128x32, .f32⟩
  | .local _ .vmem, ⟨5, _⟩ => ⟨S1x32, .f32⟩
  | .local _ .vmem, ⟨6, _⟩ => ⟨S32x64, .f32⟩
  | .local _ .vmem, ⟨7, _⟩ => ⟨S1x64, .f32⟩
  | .local _ .vmem, ⟨8, _⟩ => ⟨S64x128, .f32⟩
  | .local _ .vmem, ⟨9, _⟩ => ⟨S1x128, .f32⟩
  | .local _ .vmem, ⟨10, _⟩ => ⟨S10000x128, .f32⟩
  | .local _ .vmem, ⟨11, _⟩ => ⟨S10512x128, .f32⟩
  | .local _ .vmem, ⟨12, _⟩ => ⟨S10512x128, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![25], ![false]⟩

def k0_off1 (v12 : BitVec 32) : Fin 2 → Nat :=
  let c0_i32_4 : BitVec 32 := 0#32
  let v14 : BitVec 1 := Scalar.cmpi .sgt v12 c0_i32_4
  let v15 : BitVec 32 := Scalar.extui v14
  let c0_i32_5 : BitVec 32 := 0#32
  let v16 : BitVec 1 := Scalar.cmpi .slt v12 c0_i32_5
  let v17 : BitVec 32 := Scalar.extui v16
  let v18 : BitVec 32 := Scalar.subi v15 v17
  let c8_i32 : BitVec 32 := 8#32
  let c0_i32_6 : BitVec 32 := 0#32
  let v19 : BitVec 1 := Scalar.cmpi .sgt c8_i32 c0_i32_6
  let v20 : BitVec 32 := Scalar.extui v19
  let c0_i32_7 : BitVec 32 := 0#32
  let v21 : BitVec 1 := Scalar.cmpi .slt c8_i32 c0_i32_7
  let v22 : BitVec 32 := Scalar.extui v21
  let v23 : BitVec 32 := Scalar.subi v20 v22
  let v24 : BitVec 1 := Scalar.cmpi .ne v18 v23
  let v25 : BitVec 32 := Scalar.remsi v12 c8_i32
  let c0_i32_8 : BitVec 32 := 0#32
  let v26 : BitVec 1 := Scalar.cmpi .ne v25 c0_i32_8
  let v27 : BitVec 1 := Scalar.andi v24 v26
  let v13 : BitVec 32 := Scalar.divsi v12 c8_i32
  let c1_i32 : BitVec 32 := 1#32
  let v28 : BitVec 32 := Scalar.subi v13 c1_i32
  let v29 : BitVec 32 := Scalar.select v27 v28 v13
  let c8_i32_9 : BitVec 32 := 8#32
  let v30 : BitVec 32 := Scalar.muli v29 c8_i32_9
  let v63 : Index := Scalar.indexCast v30
  let c0_30 : Index := 0#32
  ![v63.toNat, 0]

def k0_chk1 (v12 : BitVec 32) : Prop :=
  (∀ a, (k0_off1 v12) a + S512x128.size a ≤ S10512x128.size a)
theorem k0_off1_inb : ∀ (v12 : BitVec 32) (k0_hw1 : k0_chk1 v12), ∀ a, (k0_off1 v12) a + S512x128.size a ≤ S10512x128.size a := fun v12 k0_hw1 => k0_hw1

def k0_off2 (arg12 : BitVec 32) : Fin 2 → Nat :=
  let v118 : Index := Scalar.indexCast arg12
  let c0_46 : Index := 0#32
  ![v118.toNat, 0]

def k0_chk2 (arg12 : BitVec 32) : Prop :=
  (∀ a, (k0_off2 arg12) a + S512x128.size a ≤ S10512x128.size a)
theorem k0_off2_inb : ∀ (arg12 : BitVec 32) (k0_hw2 : k0_chk2 arg12), ∀ a, (k0_off2 arg12) a + S512x128.size a ≤ S10512x128.size a := fun arg12 k0_hw2 => k0_hw2

def k0_cond2 (i : grid0.Coords) : BitVec 1 :=
  let arg0 : BitVec 32 := BitVec.ofNat 32 (i 0).val
  let c24_i32 : BitVec 32 := 24#32
  let v108 : BitVec 1 := Scalar.cmpi .eq arg0 c24_i32
  let v109 : BitVec 32 := Scalar.extui v108
  let c0_i32_44 : BitVec 32 := 0#32
  let v110 : BitVec 1 := Scalar.cmpi .ne v109 c0_i32_44
  v110

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S12800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x12800 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S10000x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S320000x128 : Shape := ⟨2, ![320000, 128]⟩
abbrev S320000 : Shape := ⟨1, ![320000]⟩
abbrev S10000x128 : Shape := ⟨2, ![10000, 128]⟩
abbrev S_ : Shape := ⟨0, ![]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S320000x32 : Shape := ⟨2, ![320000, 32]⟩
abbrev S1x32 : Shape := ⟨2, ![1, 32]⟩
abbrev S320000x64 : Shape := ⟨2, ![320000, 64]⟩
abbrev S1x64 : Shape := ⟨2, ![1, 64]⟩
abbrev S1x128 : Shape := ⟨2, ![1, 128]⟩
abbrev S320000x1 : Shape := ⟨2, ![320000, 1]⟩
abbrev S10000 : Shape := ⟨1, ![10000]⟩
abbrev S10000x1 : Shape := ⟨2, ![10000, 1]⟩

abbrev nBuf : Space → Nat
  | .hbm => 53
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S10000x128, .f32⟩
  | .hbm, ⟨3, _⟩ => ⟨S_, .i32⟩
  | .hbm, ⟨4, _⟩ => ⟨S128x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S64x128, .f32⟩
  | .hbm, ⟨9, _⟩ => ⟨S128, .f32⟩
  | .hbm, ⟨10, _⟩ => ⟨S320000x32, .f32⟩
  | .hbm, ⟨11, _⟩ => ⟨S1x32, .f32⟩
  | .hbm, ⟨12, _⟩ => ⟨S320000x32, .f32⟩
  | .hbm, ⟨13, _⟩ => ⟨S320000x32, .f32⟩
  | .hbm, ⟨14, _⟩ => ⟨S_, .f32⟩
  | .hbm, ⟨15, _⟩ => ⟨S320000x32, .f32⟩
  | .hbm, ⟨16, _⟩ => ⟨S320000x32, .f32⟩
  | .hbm, ⟨17, _⟩ => ⟨S320000x64, .f32⟩
  | .hbm, ⟨18, _⟩ => ⟨S1x64, .f32⟩
  | .hbm, ⟨19, _⟩ => ⟨S320000x64, .f32⟩
  | .hbm, ⟨20, _⟩ => ⟨S320000x64, .f32⟩
  | .hbm, ⟨21, _⟩ => ⟨S_, .f32⟩
  | .hbm, ⟨22, _⟩ => ⟨S320000x64, .f32⟩
  | .hbm, ⟨23, _⟩ => ⟨S320000x64, .f32⟩
  | .hbm, ⟨24, _⟩ => ⟨S320000x128, .f32⟩
  | .hbm, ⟨25, _⟩ => ⟨S1x128, .f32⟩
  | .hbm, ⟨26, _⟩ => ⟨S320000x128, .f32⟩
  | .hbm, ⟨27, _⟩ => ⟨S320000x128, .f32⟩
  | .hbm, ⟨28, _⟩ => ⟨S_, .f32⟩
  | .hbm, ⟨29, _⟩ => ⟨S10000x128, .f32⟩
  | .hbm, ⟨30, _⟩ => ⟨S320000x1, .i32⟩
  | .hbm, ⟨31, _⟩ => ⟨S10000x128, .f32⟩
  | .hbm, ⟨32, _⟩ => ⟨S_, .f32⟩
  | .hbm, ⟨33, _⟩ => ⟨S320000, .f32⟩
  | .hbm, ⟨34, _⟩ => ⟨S_, .f32⟩
  | .hbm, ⟨35, _⟩ => ⟨S10000, .f32⟩
  | .hbm, ⟨36, _⟩ => ⟨S320000x1, .i32⟩
  | .hbm, ⟨37, _⟩ => ⟨S10000, .f32⟩
  | .hbm, ⟨38, _⟩ => ⟨S10000x1, .f32⟩
  | .hbm, ⟨39, _⟩ => ⟨S_, .f32⟩
  | .hbm, ⟨40, _⟩ => ⟨S10000x1, .f32⟩
  | .hbm, ⟨41, _⟩ => ⟨S10000x1, .i1⟩
  | .hbm, ⟨42, _⟩ => ⟨S10000x1, .f32⟩
  | .hbm, ⟨43, _⟩ => ⟨S_, .f32⟩
  | .hbm, ⟨44, _⟩ => ⟨S10000x1, .f32⟩
  | .hbm, ⟨45, _⟩ => ⟨S10000x1, .f32⟩
  | .hbm, ⟨46, _⟩ => ⟨S10000x128, .f32⟩
  | .hbm, ⟨47, _⟩ => ⟨S10000x128, .f32⟩
  | .hbm, ⟨48, _⟩ => ⟨S_, .f32⟩
  | .hbm, ⟨49, _⟩ => ⟨S_, .f32⟩
  | .hbm, ⟨50, _⟩ => ⟨S10000x128, .i1⟩
  | .hbm, ⟨51, _⟩ => ⟨S10000x128, .f32⟩
  | .hbm, ⟨52, _⟩ => ⟨S10000x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v29 : Ref sig .tc := ⟨.hbm, 52, rfl⟩

abbrev nD : Nat := 1
abbrev τ : Topo := Topo.v7x

variable {F : FTy → Type} [FloatOps F]
-- ==== Proof.KI.Step.lean ====
/-
  What the kernel does to its two running arrays, as functions of whole arrays. The kernel keeps, in scratch memory, a sum
  array and a count array of 10512 rows. At each grid point it walks over WINDOWS of 512 consecutive rows: a window starts at
  a word `w`, a multiple of eight; the rows of the block whose segment id lies in the window are added to it, and the next
  window starts at the smallest segment id past this one, rounded down to a multiple of eight. The walk ends when the next
  start is above the largest segment id of the block.
-/
module

public import proofs.«01_k».proof.KernelIdeal
public import proofs.«01_k».proof.Proof.Gen.KernelIdeal
public import proofs.«01_k».proof.Proof.Gen.KernelIdeal.Skeleton
public import Idealize.ShloMosaic.Lib.Pipeline.Value

@[expose] public section

noncomputable section

namespace Cert.Seg

open Idealize.ShloMosaic
open Cert.KernelIdeal Cert.KernelIdeal.Gen

variable {F : FTy → Type} [FloatOps F]

/-- A word rounded down to a multiple of eight, as the kernel spells a floor division by eight followed by a product. -/
def floor8 (x : BitVec 32) : BitVec 32 :=
  Scalar.muli (Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt 8#32 0#32)) (Scalar.extui (Scalar.cmpi .slt 8#32 0#32))))
      (Scalar.cmpi .ne (Scalar.remsi x 8#32) 0#32))
    (Scalar.subi (Scalar.divsi x 8#32) 1#32) (Scalar.divsi x 8#32)) 8#32

/-- The same, read from its spelling. -/
theorem floor8_fold (x : BitVec 32) :
    Scalar.muli (Scalar.select
      (Scalar.andi
        (Scalar.cmpi .ne
          (Scalar.subi (Scalar.extui (Scalar.cmpi .sgt x 0#32)) (Scalar.extui (Scalar.cmpi .slt x 0#32)))
          (Scalar.subi (Scalar.extui (Scalar.cmpi .sgt 8#32 0#32)) (Scalar.extui (Scalar.cmpi .slt 8#32 0#32))))
        (Scalar.cmpi .ne (Scalar.remsi x 8#32) 0#32))
      (Scalar.subi (Scalar.divsi x 8#32) 1#32) (Scalar.divsi x 8#32)) 8#32 = floor8 x := (rfl)

/-- The block's segment ids as the row vector the kernel works on. -/
abbrev Ids := IVec S1x12800 32

/-- The largest segment id of a block, -/
def maxId (v4 : Ids) : BitVec 32 :=
  extractAt ![0, 0, 0] (shapeCast S1x1x1 (multiReductionI .maxsi [1, 2] S1
    (shapeCast S1x1x12800 v4 shapeCasts_S1x12800_S1x1x12800) 2147483648#32 reduces_S1x1x12800_S1 rfl) shapeCasts_S1_S1x1x1)
    inpos_S1x1x1_p0_0_0

/-- and the smallest. -/
def minId (v4 : Ids) : BitVec 32 :=
  extractAt ![0, 0, 0] (shapeCast S1x1x1 (multiReductionI .minsi [1, 2] S1
    (shapeCast S1x1x12800 v4 shapeCasts_S1x12800_S1x1x12800) 2147483647#32 reduces_S1x1x12800_S1 rfl) shapeCasts_S1_S1x1x1)
    inpos_S1x1x1_p0_0_0

/-- Where the walk starts. -/
def firstW (v4 : Ids) : BitVec 32 := floor8 (minId v4)

/-- The first window starts at the first id, rounded down; -/
theorem firstW_fold (v4 : Ids) : firstW v4 = floor8 (minId v4) := (rfl)

/-- The smallest segment id past the window at `w` (a large constant where there is none). -/
def pastId (v4 : Ids) (w : BitVec 32) : BitVec 32 := extractAt ![0, 0, 0] (k0_pay17 v4 w) inpos_S1x1x1_p0_0_0

/-- Where the walk goes from `w`. -/
def nextW (v4 : Ids) (w : BitVec 32) : BitVec 32 := floor8 (pastId v4 w)

/-- the id that the loop finds is the next one, -/
theorem pastId_fold (v4 : Ids) (w : BitVec 32) : extractAt ![0, 0, 0] (k0_pay17 v4 w) inpos_S1x1x1_p0_0_0 = pastId v4 w := (rfl)

/-- from which the next window starts. -/
theorem nextW_fold (v4 : Ids) (w : BitVec 32) : floor8 (pastId v4 w) = nextW v4 w := (rfl)

/-- The row numbers `0 … 511` of a window, along its rows. -/
abbrev rowNo : IVec S512x12800 32 := iota .tc S512x12800 32 [0] iota_S512x12800_d0_w32

/-- The sum array and the count array. -/
abbrev St (F : FTy → Type) : Type := (S10512x128.Idx → F .f32) × (S10512x128.Idx → F .f32)

/-- The 512 rows from row `w`, -/
def winRead (w : BitVec 32) (hw : k0_chk2 w) (f : S10512x128.Idx → F .f32) : S512x128.Idx → F .f32 :=
  fun j => f ((Rect.unit (s := S10512x128) (k0_off2 w) S512x128.size (k0_off2_inb w hw)).emb j)

/-- and the array with those rows replaced. -/
def winWrite (w : BitVec 32) (hw : k0_chk2 w) (f : S10512x128.Idx → F .f32) (x : S512x128.Idx → F .f32) : S10512x128.Idx → F .f32 :=
  updateSlice f x (k0_off2 w) ⟨rfl, k0_off2_inb w hw⟩

/-- One window (`rn` its row numbers): the block's rows `y` whose id lies in it are added to the sums, their number to the counts. -/
def step (v4 : Ids) (rn : IVec S512x12800 32) (y : FVec F S12800x128 .f32) (w : BitVec 32) (hw : k0_chk2 w) (s : St F) : St F :=
  (winWrite w hw s.1 (k0_pay15 v4 rn y w (winRead w hw s.1)), winWrite w hw s.2 (k0_pay16 v4 rn w (winRead w hw s.2)))

/-- The walk over `n` windows from `w`. -/
def walk (v4 : Ids) (rn : IVec S512x12800 32) (y : FVec F S12800x128 .f32) : ℕ → BitVec 32 → St F → St F
  | 0, _, s => s
  | n + 1, w, s => if hw : k0_chk2 w then walk v4 rn y n (nextW v4 w) (step v4 rn y w hw s) else s

/-- A walk of one more window. -/
theorem walk_succ (v4 : Ids) (rn : IVec S512x12800 32) (y : FVec F S12800x128 .f32) (n : ℕ) (w : BitVec 32) (hw : k0_chk2 w) (s : St F) :
    walk v4 rn y (n + 1) w s = walk v4 rn y n (nextW v4 w) (step v4 rn y w hw s) := by
  rw [walk, dif_pos hw]

/-- From `w`, to the last id `mx`, the walk makes exactly `n` windows, each inside the arrays. -/
def Chain (v4 : Ids) (mx : BitVec 32) : ℕ → BitVec 32 → Prop
  | 0, w => ¬Scalar.cmpi .sle w mx = 1#1
  | n + 1, w => Scalar.cmpi .sle w mx = 1#1 ∧ k0_chk2 w ∧ Chain v4 mx n (nextW v4 w)

/-- The block's walk makes at least one window and ends, inside the arrays. -/
def Good (v4 : Ids) : Prop := ∃ n, Chain v4 (maxId v4) (n + 1) (firstW v4)

open Classical in
/-- The number of windows of a block's walk, less one. -/
def trips (v4 : Ids) : ℕ := if h : Good v4 then h.choose else 0

/-- The number of trips is that of a walk that ends. -/
theorem trips_spec {v4 : Ids} (h : Good v4) : Chain v4 (maxId v4) (trips v4 + 1) (firstW v4) := by
  unfold trips; rw [dif_pos h]; exact h.choose_spec

/-- What one grid point does to the arrays: the block's whole walk. -/
def block (v4 : Ids) (y : FVec F S12800x128 .f32) (s : St F) : St F := walk v4 rowNo y (trips v4 + 1) (firstW v4) s

/-- The arrays the first grid point starts from: zero. -/
def zeroSt : St F := (k0_pay4, k0_pay5)

/-- The kernel's test for the first grid point. -/
def isFirst (i : grid0.Coords) : Prop :=
  Scalar.cmpi .ne (Scalar.extui (Scalar.cmpi .eq (BitVec.ofNat 32 (i 0).val) 0#32)) 0#32 = 1#1

instance (i : grid0.Coords) : Decidable (isFirst i) := by unfold isFirst; infer_instance

/-- The arrays a grid point's walk starts from: zero at the first, as left by the point before at the others. -/
def start (i : grid0.Coords) (s : St F) : St F := if isFirst i then zeroSt else s

/-- The result, from the first 10000 rows of the two arrays. -/
def finish (s : St F) : S10000x128.Idx → F .f32 :=
  k0_pay3 (fun j => s.1 ((Rect.unit (s := S10512x128) ![0, 0] S10000x128.size inb_S10512x128_S10000x128_0_0).emb j))
    (fun j => s.2 ((Rect.unit (s := S10512x128) ![0, 0] S10000x128.size inb_S10512x128_S10000x128_0_0).emb j))

/-! ## The first window of a block, spelled apart in the kernel, is a window like the others -/

/-- The greatest id as the program computes it, -/
theorem maxId_eq (v3 : Vec F S1x1x12800 .i32) :
    extractAt ![0, 0, 0] (k0_pay7 v3) inpos_S1x1x1_p0_0_0 = maxId (k0_pay6 v3) := rfl

/-- the least, -/
theorem minId_eq (v3 : Vec F S1x1x12800 .i32) :
    extractAt ![0, 0, 0] (k0_pay8 v3) inpos_S1x1x1_p0_0_0 = minId (k0_pay6 v3) := rfl

/-- the place of the first window, -/
theorem off1_eq (v : BitVec 32) : k0_off1 v = k0_off2 (floor8 v) := rfl

/-- its check, -/
theorem chk1_iff (v : BitVec 32) : k0_chk1 v ↔ k0_chk2 (floor8 v) := Iff.rfl

/-- the first window's columns, -/
theorem pay9_eq (v3 : Vec F S1x1x12800 .i32) :
    k0_pay9 v3 = k0_pay14 (F := F) (k0_pay6 v3) rowNo (firstW (k0_pay6 v3)) := rfl

/-- the sums that it stores -/
theorem pay12_eq (v3 : Vec F S1x1x12800 .i32) (a : Vec F S12800x128 .f32) (b : Vec F S128x32 .f32) (c : Vec F S1x32 .f32)
    (d : Vec F S32x64 .f32) (e : Vec F S1x64 .f32) (f : Vec F S64x128 .f32) (g : Vec F S1x128 .f32) (x : Vec F S512x128 .f32) :
    k0_pay12 (k0_pay9 v3) a b c d e f g x
      = k0_pay15 (k0_pay6 v3) rowNo (k0_pay11 a b c d e f g) (firstW (k0_pay6 v3)) x := rfl

/-- and the counts. -/
theorem pay1_eq (v3 : Vec F S1x1x12800 .i32) (x : Vec F S512x128 .f32) :
    k0_pay1 (k0_pay13 (k0_pay10 v3) x) = k0_pay16 (k0_pay6 v3) rowNo (firstW (k0_pay6 v3)) x := rfl

/-- The next id after the first window. -/
theorem past2_fold (v4 : Ids) (w : BitVec 32) : extractAt ![0, 0, 0] (k0_pay2 v4 w) inpos_S1x1x1_p0_0_0 = pastId v4 w := (rfl)

/-- What a block's first window does to the accumulators. -/
theorem first_step (v3 : Vec F S1x1x12800 .i32) (a : Vec F S12800x128 .f32) (b : Vec F S128x32 .f32) (c : Vec F S1x32 .f32)
    (d : Vec F S32x64 .f32) (e : Vec F S1x64 .f32) (f : Vec F S64x128 .f32) (g : Vec F S1x128 .f32)
    (hw : k0_chk2 (floor8 (minId (k0_pay6 v3)))) (s : St F) :
    (winWrite _ hw s.1 (k0_pay12 (k0_pay9 v3) a b c d e f g (winRead _ hw s.1)),
      winWrite _ hw s.2 (k0_pay1 (k0_pay13 (k0_pay10 v3) (winRead _ hw s.2))))
      = step (k0_pay6 v3) rowNo (k0_pay11 a b c d e f g) (floor8 (minId (k0_pay6 v3))) hw s := (rfl)

/-- A block taken at its first window: that window added, then the others walked. -/
theorem block_first (v4 : Ids) (y : FVec F S12800x128 .f32) (s : St F) (hw : k0_chk2 (floor8 (minId v4))) :
    block v4 y s = walk v4 rowNo y (trips v4) (nextW v4 (floor8 (minId v4))) (step v4 rowNo y (floor8 (minId v4)) hw s) :=
  walk_succ v4 rowNo y (trips v4) (floor8 (minId v4)) hw s

/-- A block whose walk ends, from its first window's side: the window lies inside the arrays, and the walk from the next one
    ends after the remaining windows. -/
theorem good_first (v4 : Ids) (h : Good v4) :
    k0_chk2 (floor8 (minId v4)) ∧ Chain v4 (maxId v4) (trips v4) (nextW v4 (floor8 (minId v4))) := by
  have hC := trips_spec h
  exact ⟨hC.2.1, hC.2.2⟩

end Cert.Seg

end
-- ==== Proof.Ints.lean ====
/-
  The words that steer the walk over windows, read as integers. With every segment id of a block in `[0, 10000)`: the largest
  and smallest id are attained and bound the others; the next window starts at the smallest id past the present one, rounded
  down to a multiple of eight, or at `2^30` where there is none; so every window that is entered starts at a multiple of
  eight not above 9992, windows are disjoint, and the walk ends. The two facts about a window that the sums need are kept apart:
  no id lies between a window's end and the next window's start, and after the last window no id is left.
-/
module

public import proofs.«01_k».proof.Proof.KI.Step
public import Idealize.ShloMosaic.Lib.Affine
public import Idealize.ShloMosaic.Lib.WordArith
public import Idealize.ShloMosaic.Lib.WordCmp
public import Idealize.ShloMosaic.PureOps.Reduce

@[expose] public section

noncomputable section

namespace Cert.Seg

open Idealize.ShloMosaic Idealize.ShloMosaic.Affine
open Cert.KernelIdeal Cert.KernelIdeal.Gen

/-! ## Rounding down -/

/-- On words that are not negative `floor8` is the multiple of eight below. -/
theorem floor8_toInt (x : BitVec 32) (h : 0 ≤ x.toInt) : (floor8 x).toInt = x.toInt / 8 * 8 := by
  have hsel : floor8 x = Scalar.muli (Scalar.divsi x 8#32) 8#32 := by
    by_cases h0 : x.toInt = 0
    · have : x = 0#32 := BitVec.eq_of_toInt_eq (by rw [h0]; rfl)
      subst this
      unfold floor8
      rw [show Scalar.remsi 0#32 8#32 = 0#32 from ?_]
      · rfl
      · unfold Scalar.remsi IntOp.remsi
        rw [if_neg (by decide)]; rfl
    · have h1 : Scalar.cmpi .sgt x 0#32 = 1#1 := by
        show IntOp.cmpi .sgt x 0#32 = 1#1
        rw [WordCmp.cmpi_sgt_eq, WordArith.ofBool_eq_one_iff, decide_eq_true_eq]
        show (0 : Int) < _
        omega
      have h2 : Scalar.cmpi .slt x 0#32 = 0#1 := by
        show IntOp.cmpi .slt x 0#32 = 0#1
        rw [WordCmp.cmpi_slt_eq, show (decide (x.toInt < (0#32 : BitVec 32).toInt)) = false from decide_eq_false (by
          show ¬ x.toInt < (0 : Int); omega)]
        rfl
      unfold floor8
      rw [h1, h2]
      generalize Scalar.cmpi .ne (Scalar.remsi x 8#32) 0#32 = b
      have : Scalar.andi (Scalar.cmpi .ne (Scalar.subi (Scalar.extui 1#1) (Scalar.extui 0#1))
        (Scalar.subi (Scalar.extui (Scalar.cmpi .sgt 8#32 0#32)) (Scalar.extui (Scalar.cmpi .slt 8#32 0#32)))) b = 0#1 := by
        revert b; decide
      rw [this]; rfl
  have hx := word x
  have h8 : IsInt 8#32 8 := ofNat 8 ⟨rfl, by decide⟩
  have hr := word_range x
  have hq := Affine.divsi hx h8 ⟨rfl, h, by decide⟩
  have hm := Affine.muli hq h8 ⟨rfl, by omega, by omega⟩
  rw [hsel]
  unfold IsInt at hm; exact hm

/-! ## The largest and the smallest word of a row -/

/-- The smallest word of a row vector. -/
def allMin (v : Ids) : BitVec 32 :=
  extractAt ![0, 0, 0] (shapeCast S1x1x1 (multiReductionI .minsi [1, 2] S1
    (shapeCast S1x1x12800 v shapeCasts_S1x12800_S1x1x12800) 2147483647#32 reduces_S1x1x12800_S1 rfl) shapeCasts_S1_S1x1x1)
    inpos_S1x1x1_p0_0_0

/-- A block's first id is the least of its ids, -/
theorem minId_eq_allMin (v4 : Ids) : minId v4 = allMin v4 := (rfl)

/-- The ids past the window at `w`, the others replaced by `2^30`. -/
def pastOf (v4 : Ids) (w : BitVec 32) : Ids :=
  select (cmpi .sge v4 (broadcast S1x12800 (Scalar.addi w 512#32))) v4 (broadcast S1x12800 1073741824#32)

/-- and its next id the least of those past the window. -/
theorem pastId_eq_allMin (v4 : Ids) (w : BitVec 32) : pastId v4 w = allMin (pastOf v4 w) := (rfl)

/-- The signed minimum of words is that of their integers, -/
theorem minsi_toInt (x y : BitVec 32) : (IntOp.minsi x y).toInt = min x.toInt y.toInt := by
  unfold IntOp.minsi
  by_cases h : x.slt y = true
  · rw [if_pos h]; rw [BitVec.slt_iff_toInt_lt] at h; omega
  · rw [if_neg h]; rw [BitVec.slt_iff_toInt_lt] at h; omega

/-- and the signed maximum likewise. -/
theorem maxsi_toInt (x y : BitVec 32) : (IntOp.maxsi x y).toInt = max x.toInt y.toInt := by
  unfold IntOp.maxsi
  by_cases h : y.slt x = true
  · rw [if_pos h]; rw [BitVec.slt_iff_toInt_lt] at h; omega
  · rw [if_neg h]; rw [BitVec.slt_iff_toInt_lt] at h; omega

/-- A fold by the signed minimum: below its start and every word it meets, and one of them. -/
theorem fold_minsi {ι : Type} [DecidableEq ι] (f : ι → BitVec 32) (b : BitVec 32) (S : Finset ι) :
    ((S.fold IntOp.minsi b f).toInt ≤ b.toInt ∧ ∀ i ∈ S, (S.fold IntOp.minsi b f).toInt ≤ (f i).toInt)
      ∧ ((S.fold IntOp.minsi b f).toInt = b.toInt ∨ ∃ i ∈ S, (S.fold IntOp.minsi b f).toInt = (f i).toInt) := by
  induction S using Finset.induction_on with
  | empty => simp
  | insert a S ha ih =>
    obtain ⟨⟨h1, h2⟩, h3⟩ := ih
    rw [Finset.fold_insert ha, minsi_toInt]
    refine ⟨⟨by omega, fun i hi => ?_⟩, ?_⟩
    · rcases Finset.mem_insert.1 hi with rfl | hi
      · omega
      · have := h2 i hi; omega
    · rcases le_total (f a).toInt (S.fold IntOp.minsi b f).toInt with hle | hle
      · exact Or.inr ⟨a, Finset.mem_insert_self _ _, by omega⟩
      · rcases h3 with h3 | ⟨i, hi, h3⟩
        · exact Or.inl (by omega)
        · exact Or.inr ⟨i, Finset.mem_insert_of_mem hi, by omega⟩

/-- A fold by the signed maximum: above every word it meets, and its start or one of them. -/
theorem fold_maxsi {ι : Type} [DecidableEq ι] (f : ι → BitVec 32) (b : BitVec 32) (S : Finset ι) :
    (∀ i ∈ S, (f i).toInt ≤ (S.fold IntOp.maxsi b f).toInt)
      ∧ ((S.fold IntOp.maxsi b f).toInt = b.toInt ∨ ∃ i ∈ S, (S.fold IntOp.maxsi b f).toInt = (f i).toInt) := by
  induction S using Finset.induction_on with
  | empty => simp
  | insert a S ha ih =>
    obtain ⟨h2, h3⟩ := ih
    rw [Finset.fold_insert ha, maxsi_toInt]
    refine ⟨fun i hi => ?_, ?_⟩
    · rcases Finset.mem_insert.1 hi with rfl | hi
      · omega
      · have := h2 i hi; omega
    · rcases le_total (S.fold IntOp.maxsi b f).toInt (f a).toInt with hle | hle
      · exact Or.inr ⟨a, Finset.mem_insert_self _ _, by omega⟩
      · rcases h3 with h3 | ⟨i, hi, h3⟩
        · exact Or.inl (by omega)
        · exact Or.inr ⟨i, Finset.mem_insert_of_mem hi, by omega⟩

instance : Subsingleton S1.Idx := ⟨fun a b => funext fun k => Fin.ext (by
  have h1 := (a k).isLt; have h2 := (b k).isLt
  have : ∀ k, S1.size k = 1 := by decide
  have := this k
  omega)⟩

/-- Some place of a row vector. -/
def place0 : S1x12800.Idx := fun k => ⟨0, by revert k; decide⟩

/-- Reading a row vector through its cast to a cube of one row meets every index, and only those. -/
theorem cube_index (j : S1x12800.Idx) :
    ∃ i : S1x1x12800.Idx, Shape.reshapeEquiv shapeCasts_S1x12800_S1x1x12800 i = j :=
  (Shape.reshapeEquiv shapeCasts_S1x12800_S1x1x12800).surjective j

/-- The smallest word is a fold over the row, -/
theorem allMin_fold (v : Ids) : ∃ S : Finset S1x1x12800.Idx, (∀ i, i ∈ S) ∧
    allMin v = S.fold IntOp.minsi 2147483647#32 fun i => v (Shape.reshapeEquiv shapeCasts_S1x12800_S1x1x12800 i) :=
  ⟨_, fun i => Finset.mem_filter.2 ⟨Finset.mem_univ i, Subsingleton.elim _ _⟩,
    multiReductionI_eq_fold .minsi (shapeCast S1x1x12800 v shapeCasts_S1x12800_S1x1x12800) 2147483647#32 reduces_S1x1x12800_S1 rfl
      (Shape.reshapeEquiv shapeCasts_S1_S1x1x1 fun a => ⟨(![0, 0, 0] : Fin 3 → ℕ) a, inpos_S1x1x1_p0_0_0 a⟩)⟩

/-- and so is the largest. -/
theorem maxId_fold (v : Ids) : ∃ S : Finset S1x1x12800.Idx, (∀ i, i ∈ S) ∧
    maxId v = S.fold IntOp.maxsi 2147483648#32 fun i => v (Shape.reshapeEquiv shapeCasts_S1x12800_S1x1x12800 i) :=
  ⟨_, fun i => Finset.mem_filter.2 ⟨Finset.mem_univ i, Subsingleton.elim _ _⟩,
    multiReductionI_eq_fold .maxsi (shapeCast S1x1x12800 v shapeCasts_S1x12800_S1x1x12800) 2147483648#32 reduces_S1x1x12800_S1 rfl
      (Shape.reshapeEquiv shapeCasts_S1_S1x1x1 fun a => ⟨(![0, 0, 0] : Fin 3 → ℕ) a, inpos_S1x1x1_p0_0_0 a⟩)⟩

/-- The least id is at most every id, -/
theorem allMin_le (v : Ids) (j : S1x12800.Idx) : (allMin v).toInt ≤ (v j).toInt := by
  obtain ⟨i, rfl⟩ := cube_index j
  obtain ⟨S, hS, e⟩ := allMin_fold v
  rw [e]
  exact (fold_minsi _ _ S).1.2 i (hS i)

/-- and, where the ids are below the fold's start, it is one of them. -/
theorem allMin_mem (v : Ids) (hv : ∀ j, (v j).toInt < 2147483647) : ∃ j, (allMin v).toInt = (v j).toInt := by
  have hle := allMin_le v place0
  have hlt := hv place0
  obtain ⟨S, _, e⟩ := allMin_fold v
  rcases (fold_minsi (fun i => v (Shape.reshapeEquiv shapeCasts_S1x12800_S1x1x12800 i)) 2147483647#32 S).2 with h | ⟨i, _, h⟩
  · rw [← e, show (2147483647#32 : BitVec 32).toInt = 2147483647 from by decide] at h
    omega
  · exact ⟨_, e ▸ h⟩

/-- Every id is at most the greatest, -/
theorem le_maxId (v : Ids) (j : S1x12800.Idx) : (v j).toInt ≤ (maxId v).toInt := by
  obtain ⟨i, rfl⟩ := cube_index j
  obtain ⟨S, hS, e⟩ := maxId_fold v
  rw [e]
  exact (fold_maxsi _ _ S).1 i (hS i)

/-- and the greatest is one of them where none is negative. -/
theorem maxId_mem (v : Ids) (hv : ∀ j, 0 ≤ (v j).toInt) : ∃ j, (maxId v).toInt = (v j).toInt := by
  have hle := le_maxId v place0
  have hlt := hv place0
  obtain ⟨S, _, e⟩ := maxId_fold v
  rcases (fold_maxsi (fun i => v (Shape.reshapeEquiv shapeCasts_S1x12800_S1x1x12800 i)) 2147483648#32 S).2 with h | ⟨i, _, h⟩
  · rw [← e, show (2147483648#32 : BitVec 32).toInt = -2147483648 from by decide] at h
    omega
  · exact ⟨_, e ▸ h⟩

/-! ## A window -/

/-- Every id of the block names a segment. -/
def InRange (v4 : Ids) : Prop := ∀ j, 0 ≤ (v4 j).toInt ∧ (v4 j).toInt < 10000

/-- A window that may be entered: its first row is a multiple of eight, and a window from there lies inside the arrays. -/
structure Win (w : BitVec 32) : Prop where
  lo : 0 ≤ w.toInt
  hi : w.toInt ≤ 9992
  dvd : w.toInt % 8 = 0

/-- A window's start is not negative, -/
theorem Win.toNat {w : BitVec 32} (h : Win w) : (w.toNat : ℤ) = w.toInt := by
  have := h.lo
  have := h.hi
  rw [BitVec.toInt_eq_toNat_cond] at *
  split at * <;> omega

/-- and the window lies inside the accumulators. -/
theorem Win.chk {w : BitVec 32} (h : Win w) : k0_chk2 w := by
  intro a
  have h1 := h.toNat
  have h2 := h.hi
  have : w.toNat + 512 ≤ 10512 := by omega
  match a with
  | ⟨0, _⟩ => exact this
  | ⟨1, _⟩ => exact le_refl 128

/-- The multiple of 8 at or below an id that names a segment is a window's start. -/
theorem win_of (x : BitVec 32) (h0 : 0 ≤ x.toInt) (h1 : x.toInt < 10000) : Win (floor8 x) := by
  have := floor8_toInt x h0
  exact ⟨by omega, by omega, by omega⟩

/-- The end of a window does not wrap. -/
theorem Win.past {w : BitVec 32} (h : Win w) : (Scalar.addi w 512#32).toInt = w.toInt + 512 := by
  have := h.lo
  have := h.hi
  have hm := Affine.addi (word w) (ofNat 512 ⟨rfl, by decide⟩) ⟨rfl, by omega, by omega⟩
  unfold IsInt at hm; exact hm

/-- What the search for the next id reads at one place: the id if it is past the window, a large number if not. -/
theorem pastOf_apply {w : BitVec 32} (h : Win w) (v4 : Ids) (j : S1x12800.Idx) :
    (pastOf v4 w j).toInt = if w.toInt + 512 ≤ (v4 j).toInt then (v4 j).toInt else 1073741824 := by
  show (Scalar.select (IntOp.cmpi .sge (v4 j) (Scalar.addi w 512#32)) (v4 j) 1073741824#32).toInt = _
  rw [WordCmp.cmpi_sge_eq, h.past]
  by_cases hc : w.toInt + 512 ≤ (v4 j).toInt
  · rw [if_pos hc, decide_eq_true hc]; rfl
  · rw [if_neg hc, decide_eq_false hc]; rfl

/-- What follows a window: either a window past its end, with no id in between and one not below it, or no id past the end
    and a start above every id. -/
theorem next_spec {v4 : Ids} (hv : InRange v4) {w : BitVec 32} (h : Win w) :
    (Win (nextW v4 w) ∧ w.toInt + 512 ≤ (nextW v4 w).toInt ∧ (∃ j, (nextW v4 w).toInt ≤ (v4 j).toInt) ∧
        ∀ j, w.toInt + 512 ≤ (v4 j).toInt → (nextW v4 w).toInt ≤ (v4 j).toInt)
      ∨ ((nextW v4 w).toInt = 1073741824 ∧ ∀ j, (v4 j).toInt < w.toInt + 512) := by
  have hw0 := h.lo
  have hw1 := h.hi
  have hw2 := h.dvd
  have hle : ∀ j, (pastId v4 w).toInt ≤ (pastOf v4 w j).toInt := fun j => allMin_le (pastOf v4 w) j
  obtain ⟨j, hj⟩ : ∃ j, (pastId v4 w).toInt = (pastOf v4 w j).toInt := allMin_mem (pastOf v4 w) fun j => by
    rw [pastOf_apply h]
    have := hv j
    split <;> omega
  rw [pastOf_apply h] at hj
  have hvj := hv j
  by_cases hc : w.toInt + 512 ≤ (v4 j).toInt
  · rw [if_pos hc] at hj
    have hf := floor8_toInt (pastId v4 w) (by omega)
    have hW := win_of (pastId v4 w) (by omega) (by omega)
    refine Or.inl ⟨hW, ?_, ⟨j, ?_⟩, fun i hi => ?_⟩
    · show _ ≤ (floor8 (pastId v4 w)).toInt; omega
    · show (floor8 (pastId v4 w)).toInt ≤ _; omega
    · show (floor8 (pastId v4 w)).toInt ≤ _
      have := hle i
      rw [pastOf_apply h, if_pos hi] at this
      omega
  · rw [if_neg hc] at hj
    have hf := floor8_toInt (pastId v4 w) (by omega)
    refine Or.inr ⟨?_, fun i => ?_⟩
    · show (floor8 (pastId v4 w)).toInt = _; omega
    · by_contra hi
      have := hle i
      rw [pastOf_apply h, if_pos (by omega)] at this
      have := hv i
      omega

/-- The program's signed comparison is the integers' order. -/
theorem sle_iff (x y : BitVec 32) : Scalar.cmpi .sle x y = 1#1 ↔ x.toInt ≤ y.toInt := by
  show IntOp.cmpi .sle x y = 1#1 ↔ _
  rw [WordCmp.cmpi_sle_eq, WordArith.ofBool_eq_one_iff, decide_eq_true_eq]

/-- From a window some id is not below, the walk ends, every window inside the arrays. -/
theorem chain_of (v4 : Ids) (hv : InRange v4) : ∀ (d : ℕ) (w : BitVec 32), Win w → (∃ j, w.toInt ≤ (v4 j).toInt) →
    10000 - w.toInt ≤ d → ∃ n, Chain v4 (maxId v4) (n + 1) w
  | 0, w, h, _, hd => by have := h.hi; omega
  | d + 1, w, h, ⟨j, hj⟩, hd => by
    have hs : Scalar.cmpi .sle w (maxId v4) = 1#1 := (sle_iff _ _).2 (hj.trans (le_maxId v4 j))
    rcases next_spec hv h with ⟨hW, hge, hex, _⟩ | ⟨he, _⟩
    · obtain ⟨n, hn⟩ := chain_of v4 hv d (nextW v4 w) hW hex (by omega)
      exact ⟨n + 1, hs, h.chk, hn⟩
    · refine ⟨0, hs, h.chk, fun hle => ?_⟩
      rw [sle_iff] at hle
      obtain ⟨i, hi⟩ := maxId_mem v4 fun j => (hv j).1
      have := hv i
      omega

/-- The first window of a block: some id is not below it, and no id is. -/
theorem first_spec {v4 : Ids} (hv : InRange v4) :
    Win (firstW v4) ∧ (∃ j, (firstW v4).toInt ≤ (v4 j).toInt) ∧ ∀ j, (firstW v4).toInt ≤ (v4 j).toInt := by
  have hle : ∀ j, (minId v4).toInt ≤ (v4 j).toInt := fun j => allMin_le v4 j
  obtain ⟨j, hj⟩ : ∃ j, (minId v4).toInt = (v4 j).toInt := allMin_mem v4 fun j => by have := hv j; omega
  have hvj := hv j
  have hf := floor8_toInt (minId v4) (by omega)
  have hall : ∀ j, (firstW v4).toInt ≤ (v4 j).toInt := fun i => by
    have := hle i
    show (floor8 (minId v4)).toInt ≤ _
    omega
  exact ⟨win_of _ (by omega) (by omega), ⟨j, hall j⟩, hall⟩

/-- A block whose ids all name segments is walked to its end. -/
theorem good_of_inRange {v4 : Ids} (hv : InRange v4) : Good v4 := by
  obtain ⟨hW, hex, _⟩ := first_spec hv
  exact chain_of v4 hv 10000 (firstW v4) hW hex (by have := hW.lo; omega)

end Cert.Seg

end
-- ==== Proof.Pre.lean ====
/-
  What the precondition says: every segment id lies in `[0, 10000)`.
-/
module

public import proofs.«01_k».proof.Pre_ids_in_range
public import proofs.«01_k».proof.Proof.Gen.Pre_ids_in_range
public import Idealize.ShloMosaic.Lib.ReduceAll
public import Idealize.ShloMosaic.Lib.WordArith
public import Idealize.ShloMosaic.Lib.WordCmp

@[expose] public section

noncomputable section

namespace Cert.PreProof

open Idealize.ShloMosaic
open Cert.Pre_ids_in_range

instance : Subsingleton S_.Idx := ⟨fun a b => funext fun k => k.elim0⟩

/-- The precondition, read at one row: its id names a segment. -/
theorem in_range {F : FTy → Type} [FloatOps F] (a0 : FVec F S320000x128 .f32) (ids : IVec S320000 32) (a2 : FVec F S10000x128 .f32)
    (a3 : IVec S_ 32) (a4 : FVec F S128x32 .f32) (a5 : FVec F S32 .f32) (a6 : FVec F S32x64 .f32) (a7 : FVec F S64 .f32)
    (a8 : FVec F S64x128 .f32) (a9 : FVec F S128 .f32)
    (h : fn a0 ids a2 a3 a4 a5 a6 a7 a8 a9 = fun _ => 1#1) (k : S320000.Idx) :
    0 ≤ (ids k).toInt ∧ (ids k).toInt < 10000 := by
  have e := Host.reduce_andi_all _ _ _ _ (fun a => a.elim0) (congrFun h fun a => a.elim0) k
  have e' : IntOp.andi (IntOp.cmpi .sge (ids k) 0#32) (IntOp.cmpi .slt (ids k) 10000#32) = 1#1 := e
  rw [WordCmp.cmpi_sge_eq, WordCmp.cmpi_slt_eq, WordArith.andi_ofBool, WordArith.ofBool_eq_one_iff, Bool.and_eq_true,
    decide_eq_true_eq, decide_eq_true_eq] at e'
  exact e'

end Cert.PreProof

end
-- ==== Proof.KI.Body.lean ====
/-
  The body of the idealized kernel, run once. The `while` label is answered through a specification at "the walk makes `n`
  more windows from `w`" (`spec`): holding the two scratch arrays it hands them back after those windows (`Seg.walk`); its
  body meets it entered at variant `n`, by induction on `n` (`spec_le`). The kernel's body is cut where the printer cuts it:
  `part1_run` (the arrays zeroed at the first grid point, the ids loaded, the first window's start computed and checked),
  `part2_run` (the rows' values computed, the first window added to the sums), and `body_run` (the counts' first window, the
  walk, the result stored at the last grid point).
-/
module

public import proofs.«01_k».proof.Proof.KI.Step
public import Idealize.ShloMosaic.Lib.Tactic
public import Idealize.ShloMosaic.Lib.VecWindow
public import Idealize.ShloMosaic.Lib.Pipeline.Kit

@[expose] public section

noncomputable section

namespace Cert.KI

open Cert.KernelIdeal Cert.KernelIdeal.Gen Cert.Seg

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The variants: the windows still to walk. -/
abbrev 𝒱₀ : Variants := Variants.nat

/-- A memref's buffer on core `c`, held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The two scratch arrays. -/
abbrev Ma : Memref sig .tc .vmem S10512x128 .f32 := Memref.whole cc0_scratch0
/-- The counts' accumulator, whole. -/
abbrev Mc : Memref sig .tc .vmem S10512x128 .f32 := Memref.whole cc0_scratch1

/-- Both held, at a state. -/
def held (c : Dev nD) (s : St F) : sProp 𝕄 := iprop(pt c Ma s.1 ∗ pt c Mc s.2)

/-- The rectangle of the window at `w`. -/
abbrev rW (w : BitVec 32) (hw : k0_chk2 w) : Rect S10512x128 := Rect.unit (s := S10512x128) (k0_off2 w) S512x128.size (k0_off2_inb w hw)

/-- Storing a window of the sums, -/
theorem write_a (w : BitVec 32) (hw : k0_chk2 w) (f : cc0_scratch0.ty.Contents (Elt F)) (x : (rW w hw).shape.Idx → F .f32) :
    (Ma.access (rW w hw)).write (Elt F) f x Finset.univ = winWrite w hw f x :=
  View.write_whole_slice_unit (Val := Elt F) cc0_scratch0 (k0_off2 w) S512x128.size (k0_off2_inb w hw) f x

/-- of the counts, -/
theorem write_c (w : BitVec 32) (hw : k0_chk2 w) (f : cc0_scratch1.ty.Contents (Elt F)) (x : (rW w hw).shape.Idx → F .f32) :
    (Mc.access (rW w hw)).write (Elt F) f x Finset.univ = winWrite w hw f x :=
  View.write_whole_slice_unit (Val := Elt F) cc0_scratch1 (k0_off2 w) S512x128.size (k0_off2_inb w hw) f x

/-- and loading a window of the sums -/
theorem read_a (w : BitVec 32) (hw : k0_chk2 w) (f : S10512x128.Idx → F .f32) :
    Ma.view.readAt (Elt F) (rW w hw).toLoadRect f = winRead w hw f := rfl

/-- or of the counts. -/
theorem read_c (w : BitVec 32) (hw : k0_chk2 w) (f : S10512x128.Idx → F .f32) :
    Mc.view.readAt (Elt F) (rW w hw).toLoadRect f = winRead w hw f := rfl

/-- The rectangle of the first window, as the kernel spells it apart. -/
abbrev rF (v : BitVec 32) (hv : k0_chk1 v) : Rect S10512x128 := Rect.unit (s := S10512x128) (k0_off1 v) S512x128.size (k0_off1_inb v hv)

/-- The same of a block's first window: storing the sums, -/
theorem write_aF (v : BitVec 32) (hv : k0_chk1 v) (f : cc0_scratch0.ty.Contents (Elt F)) (x : (rF v hv).shape.Idx → F .f32) :
    (Ma.access (rF v hv)).write (Elt F) f x Finset.univ = winWrite (floor8 v) hv f x :=
  View.write_whole_slice_unit (Val := Elt F) cc0_scratch0 (k0_off1 v) S512x128.size (k0_off1_inb v hv) f x

/-- the counts, -/
theorem write_cF (v : BitVec 32) (hv : k0_chk1 v) (f : cc0_scratch1.ty.Contents (Elt F)) (x : (rF v hv).shape.Idx → F .f32) :
    (Mc.access (rF v hv)).write (Elt F) f x Finset.univ = winWrite (floor8 v) hv f x :=
  View.write_whole_slice_unit (Val := Elt F) cc0_scratch1 (k0_off1 v) S512x128.size (k0_off1_inb v hv) f x

/-- loading the sums -/
theorem read_aF (v : BitVec 32) (hv : k0_chk1 v) (f : S10512x128.Idx → F .f32) :
    Ma.view.readAt (Elt F) (rF v hv).toLoadRect f = winRead (floor8 v) hv f := rfl

/-- and the counts. -/
theorem read_cF (v : BitVec 32) (hv : k0_chk1 v) (f : S10512x128.Idx → F .f32) :
    Mc.view.readAt (Elt F) (rF v hv).toLoadRect f = winRead (floor8 v) hv f := rfl

attribute [local irreducible] floor8 pastId nextW maxId minId firstW k0_pay1 k0_pay2 k0_pay3 k0_pay4 k0_pay5 k0_pay6 k0_pay7 k0_pay8
  k0_pay9 k0_pay10 k0_pay11 k0_pay12 k0_pay13 k0_pay14 k0_pay15 k0_pay16 k0_pay17

/-! ## The walk's label -/

section Label

variable (c : Dev nD) (i : grid0.Coords) (v12 : BitVec 32) (hv12 : k0_chk1 v12) (mx : BitVec 32) (v4 : Ids) (rn : IVec S512x12800 32) (y : FVec F S12800x128 .f32)

/-- The label's specification with `n` windows to walk from `w`. -/
def spec (n : ℕ) (w : BitVec 32) (s : St F) : sWPT 𝕄 (BitVec 32) := do
  sWPT.consume (held c s)
  let r ← sWPT.arbitrary
  sWPT.produce (held c (walk v4 rn y n w s))
  pure r

/-- The loop's specification, unfolded. -/
theorem spec_apply (n : ℕ) (w : BitVec 32) (s : St F) (K : BitVec 32 → sProp 𝕄) :
    spec c v4 rn y n w s K = iprop(held c s ∗ ∀ r : BitVec 32, held c (walk v4 rn y n w s) -∗ K r) := rfl

/-- The label's function is the printed loop. -/
theorem defs_one (a : Cc0While1 F) :
    defs₀ (F := F) .tc 1 a
      = cc0_while1 a.i a.v12 a.k0_hw1 a.v8 a.v4 a.v33 a.v62 a.arg10 a.harg10 a.arg11 a.harg11 a.arg12 := by
  cases a; rfl

/-- The label's body meets it, entered at variant `n`: with no window left the test fails and the body returns; with one
    left the test passes, the window lies in the arrays, its rows are read and written, and the label is called again at the
    next window's start. -/
theorem spec_le (E : Set ℕ) :
    ∀ n w, Chain v4 mx n w → ∀ (s : St F) K, spec c v4 rn y n w s K
      ⊢ wp frame (wpE (defs₀ (F := F)) 𝒱₀ (c : Thread nD τ) (some n)) E
          (defs₀ (F := F) .tc 1 (⟨i, v12, hv12, mx, v4, rn, y, Ma, Memref.isWhole_whole _, Mc, Memref.isWhole_whole _, w⟩ : Cc0While1 F)) K := by
  intro n
  induction n with
  | zero =>
    intro w hC s K
    rw [spec_apply]
    rw [defs_one]
    unfold cc0_while1
    have ht : ¬Scalar.cmpi .sle w mx = 1#1 := hC
    simp only [ht, ↓reduceIte, Prog.pure_eq_ret]
    iintro ⟨H, Hk⟩
    rw [wp_ret]; imodintro
    iapply Hk
    simp only [walk]; iexact H
  | succ n ih =>
    intro w hC s K
    obtain ⟨ht, hw, hn⟩ := hC
    rw [spec_apply]
    rw [defs_one]
    simp only [cc0_while1_eq_skeleton]; unfold cc0_while1_skel
    simp only [k0_part3_eq_skeleton]; unfold k0_part3_skel
    simp only [ht, ↓reduceIte, Prog.lift, Prog.bind_op, Prog.bind_ret, Prog.pure_eq_ret, floor8_fold, pastId_fold, nextW_fold]
    unfold held
    iintro ⟨⟨Ha, Hc⟩, Hk⟩
    iapply (wp_assume 𝒱₀ (c : Thread nD τ) (some (n + 1)) E hw)
    iapply (wp_load 𝒱₀ (c : Thread nD τ) (some (n + 1)) E (m := Ma) (Finset.subset_univ _)) $$ Ha; iintro Ha
    iapply (wp_load 𝒱₀ (c : Thread nD τ) (some (n + 1)) E (m := Ma) (Finset.subset_univ _)) $$ Ha; iintro Ha
    iapply (wp_store 𝒱₀ (c : Thread nD τ) (some (n + 1)) E (m := Ma) (r := rW w hw) (Mk := Finset.univ) (Finset.subset_univ _)) $$ Ha; iintro Ha
    iapply (wp_load 𝒱₀ (c : Thread nD τ) (some (n + 1)) E (m := Mc) (Finset.subset_univ _)) $$ Hc; iintro Hc
    iapply (wp_load 𝒱₀ (c : Thread nD τ) (some (n + 1)) E (m := Mc) (Finset.subset_univ _)) $$ Hc; iintro Hc
    iapply (wp_store 𝒱₀ (c : Thread nD τ) (some (n + 1)) E (m := Mc) (r := rW w hw) (Mk := Finset.univ) (Finset.subset_univ _)) $$ Hc; iintro Hc
    rw [write_a w hw, write_c w hw, read_a w hw, read_c w hw]
    iapply (wp_call_spec 𝒱₀ (c : Thread nD τ) (some (n + 1)) E (spec c v4 rn y n (nextW v4 w) (step v4 rn y w hw s)) n
      (fun u hu => by cases hu; exact Nat.lt_succ_self n) (ih (nextW v4 w) hn (step v4 rn y w hw s)))
    rw [spec_apply]; unfold held
    isplitl [Ha Hc]
    · isplitl [Ha]; · iexact Ha
      iexact Hc
    iintro %r ⟨Ha, Hc⟩
    rw [wp_ret]; imodintro
    iapply Hk
    rw [walk_succ v4 rn y n w hw s]
    isplitl [Ha]; · iexact Ha
    iexact Hc

end Label

/-! ## The kernel's body, part by part -/

section Parts

variable (c : Dev nD) (i : grid0.Coords)
  (M1 : Memref sig .tc .vmem S12800x128 .f32) (h1 : M1.IsWhole) (M2 : Memref sig .tc .vmem S1x1x12800 .i32) (h2 : M2.IsWhole)
  (M3 : Memref sig .tc .vmem S128x32 .f32) (h3 : M3.IsWhole) (M4 : Memref sig .tc .vmem S1x32 .f32) (h4 : M4.IsWhole)
  (M5 : Memref sig .tc .vmem S32x64 .f32) (h5 : M5.IsWhole) (M6 : Memref sig .tc .vmem S1x64 .f32) (h6 : M6.IsWhole)
  (M7 : Memref sig .tc .vmem S64x128 .f32) (h7 : M7.IsWhole) (M8 : Memref sig .tc .vmem S1x128 .f32) (h8 : M8.IsWhole)
  (M9 : Memref sig .tc .vmem S10000x128 .f32) (h9 : M9.IsWhole)

/-- The rectangle of a whole scratch array. -/
abbrev rZ : Rect S10512x128 := Rect.unit (s := S10512x128) ![0, 0] S10512x128.size inb_S10512x128_S10512x128_0_0

/-- The offset of a whole array is zero. -/
theorem zeroOff : (![0, 0] : Fin 2 → ℕ) = fun _ => 0 := by funext a; fin_cases a <;> rfl

/-- Storing the whole of the sums -/
theorem zero_a (f x : cc0_scratch0.ty.Contents (Elt F)) :
    (Ma.access rZ).write (Elt F) f x Finset.univ = x :=
  Memref.write_access_unit_zero_univ (Elt F) cc0_scratch0 zeroOff inb_S10512x128_S10512x128_0_0 f x

/-- and of the counts leaves what is stored. -/
theorem zero_c (f x : cc0_scratch1.ty.Contents (Elt F)) :
    (Mc.access rZ).write (Elt F) f x Finset.univ = x :=
  Memref.write_access_unit_zero_univ (Elt F) cc0_scratch1 zeroOff inb_S10512x128_S10512x128_0_0 f x

/-- The first part: the arrays set to zero at the first grid point, the ids loaded, the walk's start checked. The values
    it hands on are named, each with what it is. -/
theorem part1_run (s : St F) (f2 : Buf (Elt F) (M2.view.loc (c : Thread nD τ))) (v4 : Ids) (v8 v12 : BitVec 32)
    (rn : IVec S512x12800 32) (p9 : FVec F S512x12800 .f32) (p10 : FVec F S512x1 .f32)
    (hv4 : v4 = k0_pay6 (M2.view.read (Elt F) f2))
    (hv8 : v8 = extractAt ![0, 0, 0] (k0_pay7 (M2.view.read (Elt F) f2)) inpos_S1x1x1_p0_0_0)
    (hv12 : v12 = extractAt ![0, 0, 0] (k0_pay8 (M2.view.read (Elt F) f2)) inpos_S1x1x1_p0_0_0)
    (hrn : rn = rowNo) (hp9 : p9 = k0_pay9 (M2.view.read (Elt F) f2)) (hp10 : p10 = k0_pay10 (M2.view.read (Elt F) f2))
    (hw : k0_chk1 v12) (E : Set ℕ)
    (K : (Σ' (_ : BitVec 32) (_ : IVec S1x12800 32) (_ : BitVec 32) (v12 : BitVec 32) (_ : k0_chk1 v12) (_ : BitVec 32)
      (_ : IVec S512x12800 32) (_ : FVec F S512x12800 .f32), FVec F S512x1 .f32) → sProp 𝕄) :
    iprop(held c s ∗ pt c M2 f2 ∗ (iprop(held c (start i s) ∗ pt c M2 f2) -∗
        K ⟨BitVec.ofNat 32 (i 0).val, v4, v8, v12, hw, floor8 v12, rn, p9, p10⟩))
      ⊢ wp frame (wpE (defs₀ (F := F)) 𝒱₀ (c : Thread nD τ) none) E
          (k0_part1 i M1 h1 M2 h2 M3 h3 M4 h4 M5 h5 M6 h6 M7 h7 M8 h8 M9 h9 Ma (Memref.isWhole_whole _) Mc (Memref.isWhole_whole _)) K := by
  subst hv4 hv8 hv12 hrn hp9 hp10
  simp only [k0_part1_eq_skeleton]; unfold k0_part1_skel held start
  iintro ⟨⟨Ha, Hc⟩, H2, Hk⟩
  by_cases hf : isFirst i
  · rw [if_pos hf]
    unfold isFirst at hf
    simp only [hf, ↓reduceDIte, Prog.lift, Prog.bind_op, Prog.bind_ret, Prog.pure_eq_ret, floor8_fold]
    iapply (wp_load 𝒱₀ (c : Thread nD τ) none E (m := Ma) (Finset.subset_univ _)) $$ Ha; iintro Ha
    iapply (wp_store 𝒱₀ (c : Thread nD τ) none E (m := Ma) (r := rZ) (Mk := Finset.univ) (Finset.subset_univ _)) $$ Ha; iintro Ha
    iapply (wp_load 𝒱₀ (c : Thread nD τ) none E (m := Mc) (Finset.subset_univ _)) $$ Hc; iintro Hc
    iapply (wp_store 𝒱₀ (c : Thread nD τ) none E (m := Mc) (r := rZ) (Mk := Finset.univ) (Finset.subset_univ _)) $$ Hc; iintro Hc
    rw [zero_a, zero_c]
    iapply (wp_load 𝒱₀ (c : Thread nD τ) none E (m := M2) (Finset.subset_univ _)) $$ H2; iintro H2
    rw [View.readAt_full]
    iapply (wp_assume 𝒱₀ (c : Thread nD τ) none E hw)
    rw [wp_ret]; imodintro
    iapply Hk
    isplitl [Ha Hc]
    · isplitl [Ha]; · iexact Ha
      iexact Hc
    iexact H2
  · rw [if_neg hf]
    unfold isFirst at hf
    simp only [hf, ↓reduceDIte, Prog.lift, Prog.bind_op, Prog.bind_ret, Prog.pure_eq_ret, floor8_fold]
    iapply (wp_load 𝒱₀ (c : Thread nD τ) none E (m := M2) (Finset.subset_univ _)) $$ H2; iintro H2
    rw [View.readAt_full]
    iapply (wp_assume 𝒱₀ (c : Thread nD τ) none E hw)
    rw [wp_ret]; imodintro
    iapply Hk
    isplitl [Ha Hc]
    · isplitl [Ha]; · iexact Ha
      iexact Hc
    iexact H2

/-- The rows' values, of the seven arrays the point holds. -/
def rows (f1 : Buf (Elt F) (M1.view.loc (c : Thread nD τ))) (f3 : Buf (Elt F) (M3.view.loc (c : Thread nD τ)))
    (f4 : Buf (Elt F) (M4.view.loc (c : Thread nD τ))) (f5 : Buf (Elt F) (M5.view.loc (c : Thread nD τ)))
    (f6 : Buf (Elt F) (M6.view.loc (c : Thread nD τ))) (f7 : Buf (Elt F) (M7.view.loc (c : Thread nD τ)))
    (f8 : Buf (Elt F) (M8.view.loc (c : Thread nD τ))) : FVec F S12800x128 .f32 :=
  k0_pay11 (M1.view.read (Elt F) f1) (M3.view.read (Elt F) f3) (M4.view.read (Elt F) f4) (M5.view.read (Elt F) f5)
    (M6.view.read (Elt F) f6) (M7.view.read (Elt F) f7) (M8.view.read (Elt F) f8)

/-- The second part: the rows' values computed, the first window's rows added to the sums. -/
theorem part2_run (s : St F) (f1 : Buf (Elt F) (M1.view.loc (c : Thread nD τ))) (f3 : Buf (Elt F) (M3.view.loc (c : Thread nD τ)))
    (f4 : Buf (Elt F) (M4.view.loc (c : Thread nD τ))) (f5 : Buf (Elt F) (M5.view.loc (c : Thread nD τ)))
    (f6 : Buf (Elt F) (M6.view.loc (c : Thread nD τ))) (f7 : Buf (Elt F) (M7.view.loc (c : Thread nD τ)))
    (f8 : Buf (Elt F) (M8.view.loc (c : Thread nD τ)))
    (v12 : BitVec 32) (hw : k0_chk1 v12) (v30 : BitVec 32) (v37 : FVec F S512x12800 .f32) (v39 : FVec F S512x1 .f32) (E : Set ℕ)
    (K : (Σ' (_ : FVec F S12800x128 .f32), FVec F S512x128 .f32) → sProp 𝕄) :
    iprop(held c s ∗ (pt c M1 f1 ∗ pt c M3 f3 ∗ pt c M4 f4 ∗ pt c M5 f5 ∗ pt c M6 f6 ∗ pt c M7 f7 ∗ pt c M8 f8)
      ∗ (iprop(held c (winWrite (floor8 v12) ((chk1_iff v12).1 hw) s.1 (k0_pay12 v37 (M1.view.read (Elt F) f1) (M3.view.read (Elt F) f3)
              (M4.view.read (Elt F) f4) (M5.view.read (Elt F) f5) (M6.view.read (Elt F) f6) (M7.view.read (Elt F) f7)
              (M8.view.read (Elt F) f8) (winRead (floor8 v12) ((chk1_iff v12).1 hw) s.1)), s.2)
            ∗ (pt c M1 f1 ∗ pt c M3 f3 ∗ pt c M4 f4 ∗ pt c M5 f5 ∗ pt c M6 f6 ∗ pt c M7 f7 ∗ pt c M8 f8)) -∗
        K ⟨rows c M1 M3 M4 M5 M6 M7 M8 f1 f3 f4 f5 f6 f7 f8, k0_pay13 v39 (winRead (floor8 v12) ((chk1_iff v12).1 hw) s.2)⟩))
      ⊢ wp frame (wpE (defs₀ (F := F)) 𝒱₀ (c : Thread nD τ) none) E
          (k0_part2 i M1 h1 M2 h2 M3 h3 M4 h4 M5 h5 M6 h6 M7 h7 M8 h8 M9 h9 Ma (Memref.isWhole_whole _) Mc (Memref.isWhole_whole _)
            v12 hw v30 v37 v39) K := by
  simp only [k0_part2_eq_skeleton]; unfold k0_part2_skel held rows
  simp only [Prog.lift, Prog.bind_op, Prog.bind_ret, Prog.pure_eq_ret]
  iintro ⟨⟨Ha, Hc⟩, ⟨H1, H3, H4, H5, H6, H7, H8⟩, Hk⟩
  iapply (wp_load 𝒱₀ (c : Thread nD τ) none E (m := M1) (Finset.subset_univ _)) $$ H1; iintro H1
  iapply (wp_load 𝒱₀ (c : Thread nD τ) none E (m := M3) (Finset.subset_univ _)) $$ H3; iintro H3
  iapply (wp_load 𝒱₀ (c : Thread nD τ) none E (m := M4) (Finset.subset_univ _)) $$ H4; iintro H4
  iapply (wp_load 𝒱₀ (c : Thread nD τ) none E (m := M5) (Finset.subset_univ _)) $$ H5; iintro H5
  iapply (wp_load 𝒱₀ (c : Thread nD τ) none E (m := M6) (Finset.subset_univ _)) $$ H6; iintro H6
  iapply (wp_load 𝒱₀ (c : Thread nD τ) none E (m := M7) (Finset.subset_univ _)) $$ H7; iintro H7
  iapply (wp_load 𝒱₀ (c : Thread nD τ) none E (m := M8) (Finset.subset_univ _)) $$ H8; iintro H8
  iapply (wp_load 𝒱₀ (c : Thread nD τ) none E (m := Ma) (Finset.subset_univ _)) $$ Ha; iintro Ha
  iapply (wp_load 𝒱₀ (c : Thread nD τ) none E (m := Ma) (Finset.subset_univ _)) $$ Ha; iintro Ha
  iapply (wp_store 𝒱₀ (c : Thread nD τ) none E (m := Ma) (r := rF v12 hw) (Mk := Finset.univ) (Finset.subset_univ _)) $$ Ha; iintro Ha
  iapply (wp_load 𝒱₀ (c : Thread nD τ) none E (m := Mc) (Finset.subset_univ _)) $$ Hc; iintro Hc
  rw [write_aF v12 hw, read_aF v12 hw, read_cF v12 hw]
  rw [View.readAt_full M1.view, View.readAt_full M3.view, View.readAt_full M4.view, View.readAt_full M5.view, View.readAt_full M6.view,
    View.readAt_full M7.view, View.readAt_full M8.view]
  rw [wp_ret]; imodintro
  iapply Hk
  isplitl [Ha Hc]
  · isplitl [Ha]; · iexact Ha
    iexact Hc
  isplitl [H1]; · iexact H1
  isplitl [H3]; · iexact H3
  isplitl [H4]; · iexact H4
  isplitl [H5]; · iexact H5
  isplitl [H6]; · iexact H6
  isplitl [H7]; · iexact H7
  iexact H8

/-- The rectangle of the whole result, -/
abbrev rO : Rect S10000x128 := Rect.unit (s := S10000x128) ![0, 0] S10000x128.size inb_S10000x128_S10000x128_0_0

/-- which stored whole reads as what was stored. -/
theorem read_out {κ : Kind} (M : Memref sig κ .vmem S10000x128 .f32) (f : M.view.ty.Contents (Elt F)) (x : rO.shape.Idx → F .f32) :
    M.view.read (Elt F) ((M.access rO).write (Elt F) f x Finset.univ) = x := by
  rw [← View.readAt_full M.view _ (off := ![0, 0]) inb_S10000x128_S10000x128_0_0]
  exact View.read_write_univ (Val := Elt F) (v := M.access rO) f x

/-- What the result's buffer holds after the point: the finished result at the last point, what it held at the others. -/
def outBuf (s : St F) (f9 f9' : Buf (Elt F) (M9.view.loc (c : Thread nD τ))) : Prop :=
  if k0_cond2 i = 1#1 then M9.view.read (Elt F) f9' = finish s else f9' = f9

/-- A whole grid point, the values it passes on named: from the scratch arrays at `s` (at `s0` once the first point has zeroed
    them), through the first window (`s1`), to the arrays after the walk's other windows; the inputs as they were. -/
theorem body_run_of (s s0 s1 : St F) (f1 : Buf (Elt F) (M1.view.loc (c : Thread nD τ))) (f2 : Buf (Elt F) (M2.view.loc (c : Thread nD τ)))
    (f3 : Buf (Elt F) (M3.view.loc (c : Thread nD τ)))
    (f4 : Buf (Elt F) (M4.view.loc (c : Thread nD τ))) (f5 : Buf (Elt F) (M5.view.loc (c : Thread nD τ)))
    (f6 : Buf (Elt F) (M6.view.loc (c : Thread nD τ))) (f7 : Buf (Elt F) (M7.view.loc (c : Thread nD τ)))
    (f8 : Buf (Elt F) (M8.view.loc (c : Thread nD τ))) (f9 : Buf (Elt F) (M9.view.loc (c : Thread nD τ)))
    (v4 : Ids) (v8 v12 : BitVec 32) (rn : IVec S512x12800 32) (p9 : FVec F S512x12800 .f32) (p10 : FVec F S512x1 .f32)
    (y : FVec F S12800x128 .f32) (n : ℕ)
    (hv4 : v4 = k0_pay6 (M2.view.read (Elt F) f2))
    (hv8 : v8 = extractAt ![0, 0, 0] (k0_pay7 (M2.view.read (Elt F) f2)) inpos_S1x1x1_p0_0_0)
    (hv12 : v12 = extractAt ![0, 0, 0] (k0_pay8 (M2.view.read (Elt F) f2)) inpos_S1x1x1_p0_0_0)
    (hrn : rn = rowNo) (hp9 : p9 = k0_pay9 (M2.view.read (Elt F) f2)) (hp10 : p10 = k0_pay10 (M2.view.read (Elt F) f2))
    (hy : rows c M1 M3 M4 M5 M6 M7 M8 f1 f3 f4 f5 f6 f7 f8 = y)
    (hw : k0_chk1 v12) (hn : Chain v4 v8 n (nextW v4 (floor8 v12))) (hs0 : start i s = s0)
    (hsa : winWrite (floor8 v12) ((chk1_iff v12).1 hw) s0.1 (k0_pay12 p9 (M1.view.read (Elt F) f1) (M3.view.read (Elt F) f3)
              (M4.view.read (Elt F) f4) (M5.view.read (Elt F) f5) (M6.view.read (Elt F) f6) (M7.view.read (Elt F) f7)
              (M8.view.read (Elt F) f8) (winRead (floor8 v12) ((chk1_iff v12).1 hw) s0.1)) = s1.1)
    (hsc : winWrite (floor8 v12) ((chk1_iff v12).1 hw) s0.2
        (k0_pay1 (k0_pay13 p10 (winRead (floor8 v12) ((chk1_iff v12).1 hw) s0.2))) = s1.2)
    (K : PUnit → sProp 𝕄) :
    iprop(held c s ∗ pt c M2 f2 ∗ (pt c M1 f1 ∗ pt c M3 f3 ∗ pt c M4 f4 ∗ pt c M5 f5 ∗ pt c M6 f6 ∗ pt c M7 f7 ∗ pt c M8 f8) ∗ pt c M9 f9
      ∗ (∀ f9', ⌜outBuf c i M9 (walk v4 rn y n (nextW v4 (floor8 v12)) s1) f9 f9'⌝ -∗
        (iprop(held c (walk v4 rn y n (nextW v4 (floor8 v12)) s1)
          ∗ pt c M2 f2 ∗ (pt c M1 f1 ∗ pt c M3 f3 ∗ pt c M4 f4 ∗ pt c M5 f5 ∗ pt c M6 f6 ∗ pt c M7 f7 ∗ pt c M8 f8) ∗ pt c M9 f9') -∗ K ⟨⟩)))
      ⊢ wp frame (wpE (defs₀ (F := F)) 𝒱₀ (c : Thread nD τ) none) Set.univ
          (cc0__body i M1 h1 M2 h2 M3 h3 M4 h4 M5 h5 M6 h6 M7 h7 M8 h8 M9 h9 Ma (Memref.isWhole_whole _) Mc (Memref.isWhole_whole _)) K := by
  simp only [cc0__body_eq_skeleton]; unfold cc0__body_skel
  rw [wp_bind]
  iintro ⟨Hs, H2, Hin, H9, Hk⟩
  iapply (part1_run c i M1 h1 M2 h2 M3 h3 M4 h4 M5 h5 M6 h6 M7 h7 M8 h8 M9 h9 s f2 v4 v8 v12 rn p9 p10 hv4 hv8 hv12 hrn hp9 hp10 hw Set.univ _)
  isplitl [Hs]; · iexact Hs
  isplitl [H2]; · iexact H2
  rw [hs0]
  iintro ⟨Hs, H2⟩
  dsimp only
  rw [wp_bind]
  iapply (part2_run c i M1 h1 M2 h2 M3 h3 M4 h4 M5 h5 M6 h6 M7 h7 M8 h8 M9 h9 s0 f1 f3 f4 f5 f6 f7 f8 v12 hw _ p9 p10 Set.univ _)
  isplitl [Hs]; · iexact Hs
  isplitl [Hin]; · iexact Hin
  rw [hy, hsa]
  iintro ⟨Hs, Hin⟩
  dsimp only
  simp only [Prog.lift, Prog.bind_op, Prog.bind_ret, Prog.pure_eq_ret, floor8_fold, past2_fold, nextW_fold]
  unfold held
  icases Hs with ⟨Ha, Hc⟩
  iapply (wp_load 𝒱₀ (c : Thread nD τ) none Set.univ (m := Mc) (Finset.subset_univ _)) $$ Hc; iintro Hc
  iapply (wp_store 𝒱₀ (c : Thread nD τ) none Set.univ (m := Mc) (r := rF _ hw) (Mk := Finset.univ) (Finset.subset_univ _)) $$ Hc; iintro Hc
  rw [write_cF _ hw, hsc]
  iapply (wp_call_spec 𝒱₀ (c : Thread nD τ) none Set.univ (spec c v4 rn y n (nextW v4 (floor8 v12)) s1) n
    (fun u hu => nomatch hu) (spec_le c i v12 hw v8 v4 rn y Set.univ n _ hn s1))
  rw [spec_apply]; unfold held
  isplitl [Ha Hc]
  · isplitl [Ha]; · iexact Ha
    iexact Hc
  iintro %r ⟨Ha, Hc⟩
  generalize walk v4 rn y n (nextW v4 (floor8 v12)) s1 = s2
  by_cases hl : k0_cond2 i = 1#1
  · simp only [hl, ↓reduceDIte, Prog.lift, Prog.bind_op, Prog.bind_ret, Prog.pure_eq_ret]
    iapply (wp_load 𝒱₀ (c : Thread nD τ) none Set.univ (m := Ma) (Finset.subset_univ _)) $$ Ha; iintro Ha
    iapply (wp_load 𝒱₀ (c : Thread nD τ) none Set.univ (m := Mc) (Finset.subset_univ _)) $$ Hc; iintro Hc
    iapply (wp_load 𝒱₀ (c : Thread nD τ) none Set.univ (m := M9) (Finset.subset_univ _)) $$ H9; iintro H9
    iapply (wp_store 𝒱₀ (c : Thread nD τ) none Set.univ (m := M9) (r := rO) (Mk := Finset.univ) (Finset.subset_univ _)) $$ H9; iintro H9
    rw [wp_ret]; imodintro
    iapply Hk $$ %_
    · ipureintro; unfold outBuf; rw [if_pos hl]; exact read_out M9 f9 _
    isplitl [Ha Hc]
    · isplitl [Ha]; · iexact Ha
      iexact Hc
    isplitl [H2]; · iexact H2
    isplitl [Hin]; · iexact Hin
    iexact H9
  · simp only [hl, ↓reduceDIte, Prog.lift, Prog.bind_op, Prog.bind_ret, Prog.pure_eq_ret]
    rw [wp_ret]; imodintro
    iapply Hk $$ %f9
    · ipureintro; unfold outBuf; rw [if_neg hl]
    isplitl [Ha Hc]
    · isplitl [Ha]; · iexact Ha
      iexact Hc
    isplitl [H2]; · iexact H2
    isplitl [Hin]; · iexact Hin
    iexact H9

/-- A whole grid point: from the scratch arrays at `s` to the block's walk over them (over zeros at the first point), the
    result's buffer at its final value at the last point; the inputs as they were. -/
theorem body_run (s : St F) (f1 : Buf (Elt F) (M1.view.loc (c : Thread nD τ))) (f2 : Buf (Elt F) (M2.view.loc (c : Thread nD τ)))
    (f3 : Buf (Elt F) (M3.view.loc (c : Thread nD τ)))
    (f4 : Buf (Elt F) (M4.view.loc (c : Thread nD τ))) (f5 : Buf (Elt F) (M5.view.loc (c : Thread nD τ)))
    (f6 : Buf (Elt F) (M6.view.loc (c : Thread nD τ))) (f7 : Buf (Elt F) (M7.view.loc (c : Thread nD τ)))
    (f8 : Buf (Elt F) (M8.view.loc (c : Thread nD τ))) (f9 : Buf (Elt F) (M9.view.loc (c : Thread nD τ)))
    (hg : Good (k0_pay6 (M2.view.read (Elt F) f2))) (s' : St F)
    (hs' : block (k0_pay6 (M2.view.read (Elt F) f2)) (rows c M1 M3 M4 M5 M6 M7 M8 f1 f3 f4 f5 f6 f7 f8) (start i s) = s')
    (K : PUnit → sProp 𝕄) :
    iprop(held c s ∗ pt c M2 f2 ∗ (pt c M1 f1 ∗ pt c M3 f3 ∗ pt c M4 f4 ∗ pt c M5 f5 ∗ pt c M6 f6 ∗ pt c M7 f7 ∗ pt c M8 f8) ∗ pt c M9 f9
      ∗ (∀ f9', ⌜outBuf c i M9 s' f9 f9'⌝ -∗
        (iprop(held c s' ∗ pt c M2 f2 ∗ (pt c M1 f1 ∗ pt c M3 f3 ∗ pt c M4 f4 ∗ pt c M5 f5 ∗ pt c M6 f6 ∗ pt c M7 f7 ∗ pt c M8 f8)
          ∗ pt c M9 f9') -∗ K ⟨⟩)))
      ⊢ wp frame (wpE (defs₀ (F := F)) 𝒱₀ (c : Thread nD τ) none) Set.univ
          (cc0__body i M1 h1 M2 h2 M3 h3 M4 h4 M5 h5 M6 h6 M7 h7 M8 h8 M9 h9 Ma (Memref.isWhole_whole _) Mc (Memref.isWhole_whole _)) K := by
  obtain ⟨hw, hn⟩ := good_first _ hg
  rw [block_first _ _ _ hw] at hs'
  subst hs'
  exact body_run_of c i M1 h1 M2 h2 M3 h3 M4 h4 M5 h5 M6 h6 M7 h7 M8 h8 M9 h9 s (start i s) _ f1 f2 f3 f4 f5 f6 f7 f8 f9
    (k0_pay6 (M2.view.read (Elt F) f2)) (maxId (k0_pay6 (M2.view.read (Elt F) f2))) (minId (k0_pay6 (M2.view.read (Elt F) f2))) rowNo
    (k0_pay9 (M2.view.read (Elt F) f2)) (k0_pay10 (M2.view.read (Elt F) f2)) _ (trips (k0_pay6 (M2.view.read (Elt F) f2)))
    rfl (maxId_eq _).symm (minId_eq _).symm rfl rfl rfl rfl ((chk1_iff _).2 hw) hn rfl
    (congrArg Prod.fst (first_step (M2.view.read (Elt F) f2) _ _ _ _ _ _ _ hw (start i s)))
    (congrArg Prod.snd (first_step (M2.view.read (Elt F) f2) (M1.view.read (Elt F) f1) (M3.view.read (Elt F) f3) (M4.view.read (Elt F) f4)
      (M5.view.read (Elt F) f5) (M6.view.read (Elt F) f6) (M7.view.read (Elt F) f7) (M8.view.read (Elt F) f8) hw (start i s))) K

/-- The same with the inputs' contents named. -/
theorem body_run_at (s s' : St F)
    (f1 : Buf (Elt F) (M1.view.loc (c : Thread nD τ)))
    (f2 : Buf (Elt F) (M2.view.loc (c : Thread nD τ)))
    (f3 : Buf (Elt F) (M3.view.loc (c : Thread nD τ)))
    (f4 : Buf (Elt F) (M4.view.loc (c : Thread nD τ)))
    (f5 : Buf (Elt F) (M5.view.loc (c : Thread nD τ)))
    (f6 : Buf (Elt F) (M6.view.loc (c : Thread nD τ)))
    (f7 : Buf (Elt F) (M7.view.loc (c : Thread nD τ)))
    (f8 : Buf (Elt F) (M8.view.loc (c : Thread nD τ)))
    (f9 : Buf (Elt F) (M9.view.loc (c : Thread nD τ)))
    (x1 : Vec F S12800x128 .f32)
    (x2 : Vec F S1x1x12800 .i32)
    (x3 : Vec F S128x32 .f32)
    (x4 : Vec F S1x32 .f32)
    (x5 : Vec F S32x64 .f32)
    (x6 : Vec F S1x64 .f32)
    (x7 : Vec F S64x128 .f32)
    (x8 : Vec F S1x128 .f32)
    (e1 : M1.view.read (Elt F) f1 = x1)
    (e2 : M2.view.read (Elt F) f2 = x2)
    (e3 : M3.view.read (Elt F) f3 = x3)
    (e4 : M4.view.read (Elt F) f4 = x4)
    (e5 : M5.view.read (Elt F) f5 = x5)
    (e6 : M6.view.read (Elt F) f6 = x6)
    (e7 : M7.view.read (Elt F) f7 = x7)
    (e8 : M8.view.read (Elt F) f8 = x8)
    (hg : Good (k0_pay6 x2)) (hs' : block (k0_pay6 x2) (k0_pay11 x1 x3 x4 x5 x6 x7 x8) (start i s) = s') (K : PUnit → sProp 𝕄) :
    iprop(held c s ∗ pt c M2 f2 ∗ (pt c M1 f1 ∗ pt c M3 f3 ∗ pt c M4 f4 ∗ pt c M5 f5 ∗ pt c M6 f6 ∗ pt c M7 f7 ∗ pt c M8 f8) ∗ pt c M9 f9
      ∗ (∀ f9', ⌜outBuf c i M9 s' f9 f9'⌝ -∗
        (iprop(held c s' ∗ pt c M2 f2 ∗ (pt c M1 f1 ∗ pt c M3 f3 ∗ pt c M4 f4 ∗ pt c M5 f5 ∗ pt c M6 f6 ∗ pt c M7 f7 ∗ pt c M8 f8)
          ∗ pt c M9 f9') -∗ K ⟨⟩)))
      ⊢ wp frame (wpE (defs₀ (F := F)) 𝒱₀ (c : Thread nD τ) none) Set.univ
          (cc0__body i M1 h1 M2 h2 M3 h3 M4 h4 M5 h5 M6 h6 M7 h7 M8 h8 M9 h9 Ma (Memref.isWhole_whole _) Mc (Memref.isWhole_whole _)) K := by
  subst e1 e2 e3 e4 e5 e6 e7 e8
  exact body_run c i M1 h1 M2 h2 M3 h3 M4 h4 M5 h5 M6 h6 M7 h7 M8 h8 M9 h9 s f1 f2 f3 f4 f5 f6 f7 f8 f9 hg s' hs' K

end Parts

end Cert.KI

end
-- ==== Proof.KI.Run.lean ====
/-
  The run of the idealized kernel. Between the grid's points the launch keeps the two scratch arrays at `stAt n`, what the
  first `n` blocks' walks leave, started from zeros; the result's staging buffer is written at the last point only. Given
  that every block's walk ends (`Good`), the program terminates with the result's array at `finish (stAt 25)` and the
  arguments unchanged (`run`).
-/
module

public import proofs.«01_k».proof.Proof.KI.Body
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.Value

@[expose] public section

noncomputable section

namespace Cert.KI

open Cert.KernelIdeal Cert.KernelIdeal.Gen Cert.Seg

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch, -/
abbrev V₀ (c : Dev nD) : Valuation τ sig (Elt F) := fun b => m (c, b)
/-- and when the kernel starts: the four reshapes have run. -/
abbrev V (c : Dev nD) (b : Ref sig .tc) : Buf (Elt F) ((c : Thread nD τ).loc b) := StableHlo.after hostOps0 (V₀ m c) b

/-- A buffer no reshape writes reaches the kernel as launched. -/
theorem V_of_ne (c : Dev nD) (b : Ref sig .tc) (hb : b ≠ main_v0 ∧ b ≠ main_v1 ∧ b ≠ main_v2 ∧ b ≠ main_v3) :
    V m c b = m ((c : Thread nD τ).loc b) := by
  obtain ⟨h0, h1, h2, h3⟩ := hb
  refine StableHlo.after_of_forall_not_mem (b := Proc.devRef .tc b) hostOps0 (V₀ m c) fun op hop => ?_
  simp only [List.mem_cons, List.mem_nil_iff, or_false] at hop
  rcases hop with rfl | rfl | rfl | rfl <;> simp only [StableHlo.reshape_writes, Finset.mem_singleton] <;>
    exact StableHlo.devRef_ne_of_ne ‹_›

/-- Window `w`'s block of its array at point `t`. -/
abbrev inBlk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The block's ids at point `t`, -/
def idsAt (c : Dev nD) (t : Fin (cfg0 (F := F)).N) : Ids := k0_pay6 (F := F) (inBlk m c 1 t)
/-- and its rows' values. -/
def rowsAt (c : Dev nD) (t : Fin (cfg0 (F := F)).N) : FVec F S12800x128 .f32 :=
  k0_pay11 (inBlk m c 0 t) (inBlk m c 2 t) (inBlk m c 3 t) (inBlk m c 4 t) (inBlk m c 5 t) (inBlk m c 6 t) (inBlk m c 7 t)

/-- The scratch arrays after the first `n` blocks. -/
def stAt (c : Dev nD) : ℕ → St F
  | 0 => zeroSt
  | n + 1 => if h : n < (cfg0 (F := F)).N then block (idsAt m c ⟨n, h⟩) (rowsAt m c ⟨n, h⟩) (stAt c n) else stAt c n

/-- The accumulators after one more block. -/
theorem stAt_succ (c : Dev nD) (t : Fin (cfg0 (F := F)).N) :
    stAt m c (t.val + 1) = block (idsAt m c t) (rowsAt m c t) (stAt m c t.val) := by
  rw [stAt, dif_pos t.isLt]

/-- What rides between the points: the scratch arrays at what the blocks so far leave (at anything before the first), and the
    generator's register. -/
def Φc (c : Dev nD) (n : ℕ) : sProp 𝕄 := iprop((∃ s, ⌜n ≠ 0 → s = stAt m c n⌝ ∗ held c s) ∗ ∃ r, prngReg c r)

/-- The launch's proof data. -/
def dats (_ : Fin 1) (c : Dev nD) : Dat τ (Elt F) Unit ℕ (UR sig nD τ) ℕ (cfg0 (F := F)) c where
  A w := V m c (Pipeline.arrRef spec0 w)
  after w t := match w with
    | 0 => inBlk m c 0 t | 1 => inBlk m c 1 t | 2 => inBlk m c 2 t | 3 => inBlk m c 3 t | 4 => inBlk m c 4 t
    | 5 => inBlk m c 5 t | 6 => inBlk m c 6 t | 7 => inBlk m c 7 t | 8 => finish (stAt m c (t.val + 1))
    | ⟨_ + 9, h⟩ => absurd h (Nat.not_lt.2 (Nat.le_add_left _ _))
  Φ n := Φc m c n.val
  q _ := fullShare
  owed _ := 0

/-- A window is over its array as the kernel found it. -/
theorem A_eq (c : Dev nD) (w : Fin (cfg0 (F := F)).W) : (dats m 0 c).A w = V m c (Pipeline.arrRef spec0 w) := by
  dsimp only [dats]

/-- An input window's buffer holds its block when the body runs. -/
theorem before_of (c : Dev nD) (w : Fin (cfg0 (F := F)).W) (hw : ((cfg0 (F := F)).win w).isOut = false) (hlive : ∀ i, (cfg0 (F := F)).idle w i = false)
    (hclip : ∀ t t' : Fin (cfg0 (F := F)).N, ((cfg0 (F := F)).win w).index t = ((cfg0 (F := F)).win w).index t' →
      ((cfg0 (F := F)).win w).clip ((cfg0 (F := F)).grid.coords t) = ((cfg0 (F := F)).win w).clip ((cfg0 (F := F)).grid.coords t'))
    (hkeep : ∀ t, ((cfg0 (F := F)).win w).cut ((cfg0 (F := F)).grid.coords t) ((dats m 0 c).after w t) = (dats m 0 c).blockOf w t)
    (t : Fin (cfg0 (F := F)).N) (d : ((cfg0 (F := F)).win w).block.Idx → Elt F ((cfg0 (F := F)).win w).elt) :
    (dats m 0 c).before w t d = (dats m 0 c).fetched w t d :=
  (dats m 0 c).before_in_eq_fetched w hw hlive hclip hkeep t d

section Before
variable (c : Dev nD) (t : Fin (cfg0 (F := F)).N)
/-- Window 0 finds its block of its array. -/
theorem before_0 (d) : (dats m 0 c).before 0 t d = inBlk m c 0 t := before_of m c 0 rfl (fun _ => rfl) (fun _ _ _ => rfl) (fun _ => rfl) t d
/-- Window 1 finds its block of its array. -/
theorem before_1 (d) : (dats m 0 c).before 1 t d = inBlk m c 1 t := before_of m c 1 rfl (fun _ => rfl) (fun _ _ _ => rfl) (fun _ => rfl) t d
/-- Window 2 finds its block of its array. -/
theorem before_2 (d) : (dats m 0 c).before 2 t d = inBlk m c 2 t := before_of m c 2 rfl (fun _ => rfl) (fun _ _ _ => rfl) (fun _ => rfl) t d
/-- Window 3 finds its block of its array. -/
theorem before_3 (d) : (dats m 0 c).before 3 t d = inBlk m c 3 t := before_of m c 3 rfl (fun _ => rfl) (fun _ _ _ => rfl) (fun _ => rfl) t d
/-- Window 4 finds its block of its array. -/
theorem before_4 (d) : (dats m 0 c).before 4 t d = inBlk m c 4 t := before_of m c 4 rfl (fun _ => rfl) (fun _ _ _ => rfl) (fun _ => rfl) t d
/-- Window 5 finds its block of its array. -/
theorem before_5 (d) : (dats m 0 c).before 5 t d = inBlk m c 5 t := before_of m c 5 rfl (fun _ => rfl) (fun _ _ _ => rfl) (fun _ => rfl) t d
/-- Window 6 finds its block of its array. -/
theorem before_6 (d) : (dats m 0 c).before 6 t d = inBlk m c 6 t := before_of m c 6 rfl (fun _ => rfl) (fun _ _ _ => rfl) (fun _ => rfl) t d
/-- Window 7 finds its block of its array. -/
theorem before_7 (d) : (dats m 0 c).before 7 t d = inBlk m c 7 t := before_of m c 7 rfl (fun _ => rfl) (fun _ _ _ => rfl) (fun _ => rfl) t d
end Before

/-! ## The grid's points -/

/-- The first grid point is point 0, -/
theorem isFirst_iff : ∀ t : Fin grid0.N, isFirst (grid0.coords t) ↔ t.val = 0 := by decide
/-- the last point 24. -/
theorem isLast_iff : ∀ t : Fin grid0.N, k0_cond2 (grid0.coords t) = 1#1 ↔ t.val = 24 := by decide

/-- The arrays a point's walk starts from, given what the points before left. -/
theorem start_eq (c : Dev nD) (t : Fin (cfg0 (F := F)).N) (s : St F) (hs : t.val ≠ 0 → s = stAt m c t.val) :
    start (grid0.coords t) s = stAt m c t.val := by
  unfold start
  by_cases h : t.val = 0
  · rw [if_pos ((isFirst_iff t).2 h), h]; rfl
  · rw [if_neg (fun h' => h ((isFirst_iff t).1 h'))]; exact hs h

/-- The result's buffer at a point the body leaves it alone. -/
theorem flush_8 (t : Fin (cfg0 (F := F)).N) (h : t.val ≠ 24) : ((cfg0 (F := F)).win 8).flush t = false := by
  rw [← Bool.not_eq_true, flush0_8]
  have := t.isLt; have h25 : (cfg0 (F := F)).N = 25 := N_0
  omega

/-- The result's window is idle before the last point, -/
theorem idle_8 (t : Fin (cfg0 (F := F)).N) (h : t.val ≠ 24) : (cfg0 (F := F)).idle 8 ((cfg0 (F := F)).grid.coords t) = true := by
  have : k0_cond2 (grid0.coords t) ≠ 1#1 := fun h' => h ((isLast_iff t).1 h')
  show (!(k0_cond2 (grid0.coords t) == 1#1)) = true
  simp [this]

/-- and live there. -/
theorem live_8 (t : Fin (cfg0 (F := F)).N) (h : t.val = 24) : (cfg0 (F := F)).idle 8 ((cfg0 (F := F)).grid.coords t) = false := by
  have : k0_cond2 (grid0.coords t) = 1#1 := (isLast_iff t).2 h
  show (!(k0_cond2 (grid0.coords t) == 1#1)) = false
  simp [this]

/-- A whole memref owned at contents is its buffer held whole at contents reading as those. -/
theorem owns_pt (c : Dev nD) {sp : Space} {S : Shape} {e : EltTy} (M : Memref sig .tc sp S e) (hM : M.IsWhole) (X : S.Idx → Elt F e) :
    (owns (c : Thread nD τ) M fullShare X : sProp 𝕄) = iprop(∃ f, ⌜M.view.read (Elt F) f = X⌝ ∗ pt c M f) := by
  obtain ⟨b, rfl, rfl, rfl, h⟩ := hM
  obtain rfl := eq_of_heq h
  unfold owns pt
  simp only [Memref.view_whole, View.set_whole]

/-- A window's current buffer, owned at contents. -/
theorem owns_win (c : Dev nD) (w : Fin (cfg0 (F := F)).W) (t : Fin (cfg0 (F := F)).N) (X : ((cfg0 (F := F)).win w).block.Idx → Elt F ((cfg0 (F := F)).win w).elt) :
    (owns (c : Thread nD τ) (((cfg0 (F := F)).win w).stage ((cfg0 (F := F)).slots t w)) fullShare X : sProp 𝕄)
      ⊢ iprop(∃ f, ⌜(((cfg0 (F := F)).win w).stage ((cfg0 (F := F)).slots t w)).view.read (Elt F) f = X⌝ ∗ pt c (((cfg0 (F := F)).win w).stage ((cfg0 (F := F)).slots t w)) f) :=
  Entails.of_eq (owns_pt c _ (stage_whole0 w _) X)

/-- A window's current buffer held whole, owned at what its contents read as. -/
theorem win_owns (c : Dev nD) (w : Fin (cfg0 (F := F)).W) (t : Fin (cfg0 (F := F)).N) (X : ((cfg0 (F := F)).win w).block.Idx → Elt F ((cfg0 (F := F)).win w).elt)
    (f : Buf (Elt F) ((((cfg0 (F := F)).win w).stage ((cfg0 (F := F)).slots t w)).view.loc (c : Thread nD τ)))
    (h : (((cfg0 (F := F)).win w).stage ((cfg0 (F := F)).slots t w)).view.read (Elt F) f = X) :
    pt c (((cfg0 (F := F)).win w).stage ((cfg0 (F := F)).slots t w)) f
      ⊢ (owns (c : Thread nD τ) (((cfg0 (F := F)).win w).stage ((cfg0 (F := F)).slots t w)) fullShare X : sProp 𝕄) := by
  rw [owns_pt c _ (stage_whole0 w _) X]
  iintro H; iexists f; isplitr; · ipureintro; exact h
  iexact H

variable (hgood : ∀ c t, Good (idsAt m c t))

include hgood in
/-- The body at each point, as the launch asks for it. -/
theorem body_obligation (c : Dev nD) : BodyObligationLoose (dats m 0 c) (defs₀ (F := F)) 𝒱₀ () Set.univ := fun t => by
  rw [bigSep_W0, bigSep_W0]
  rw [show (dats m 0 c).owesAt () t.succ = (dats m 0 c).owesAt () t.castSucc from rfl,
    show (dats m 0 c).Φ t.castSucc = Φc m c t.val from rfl, show (dats m 0 c).Φ t.succ = Φc m c (t.val + 1) from rfl]
  unfold Φc
  iintro ⟨⟨⟨%s, %hs, Hs⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave H0 := (owns_win c 0 t ((dats m 0 c).before 0 t d0)) $$ [H0]; · iexact H0
  icases H0 with ⟨%f0, %hf0, H0⟩; replace hf0 := hf0.trans (before_0 m c t d0)
  ihave H1 := (owns_win c 1 t ((dats m 0 c).before 1 t d1)) $$ [H1]; · iexact H1
  icases H1 with ⟨%f1, %hf1, H1⟩; replace hf1 := hf1.trans (before_1 m c t d1)
  ihave H2 := (owns_win c 2 t ((dats m 0 c).before 2 t d2)) $$ [H2]; · iexact H2
  icases H2 with ⟨%f2, %hf2, H2⟩; replace hf2 := hf2.trans (before_2 m c t d2)
  ihave H3 := (owns_win c 3 t ((dats m 0 c).before 3 t d3)) $$ [H3]; · iexact H3
  icases H3 with ⟨%f3, %hf3, H3⟩; replace hf3 := hf3.trans (before_3 m c t d3)
  ihave H4 := (owns_win c 4 t ((dats m 0 c).before 4 t d4)) $$ [H4]; · iexact H4
  icases H4 with ⟨%f4, %hf4, H4⟩; replace hf4 := hf4.trans (before_4 m c t d4)
  ihave H5 := (owns_win c 5 t ((dats m 0 c).before 5 t d5)) $$ [H5]; · iexact H5
  icases H5 with ⟨%f5, %hf5, H5⟩; replace hf5 := hf5.trans (before_5 m c t d5)
  ihave H6 := (owns_win c 6 t ((dats m 0 c).before 6 t d6)) $$ [H6]; · iexact H6
  icases H6 with ⟨%f6, %hf6, H6⟩; replace hf6 := hf6.trans (before_6 m c t d6)
  ihave H7 := (owns_win c 7 t ((dats m 0 c).before 7 t d7)) $$ [H7]; · iexact H7
  icases H7 with ⟨%f7, %hf7, H7⟩; replace hf7 := hf7.trans (before_7 m c t d7)
  ihave H8 := (owns_win c 8 t ((dats m 0 c).before 8 t d8)) $$ [H8]; · iexact H8
  icases H8 with ⟨%f8, %hf8, H8⟩
  iapply (body_run_at (F := F) c (grid0.coords t) (st0_0 t) (hstage0_0 _) (st0_1 t) (hstage0_1 _) (st0_2 t) (hstage0_2 _) (st0_3 t) (hstage0_3 _)
    (st0_4 t) (hstage0_4 _) (st0_5 t) (hstage0_5 _) (st0_6 t) (hstage0_6 _) (st0_7 t) (hstage0_7 _) (st0_8 t) (hstage0_8 _)
    s (stAt m c (t.val + 1)) f0 f1 f2 f3 f4 f5 f6 f7 f8 _ _ _ _ _ _ _ _ hf0 hf1 hf2 hf3 hf4 hf5 hf6 hf7 (hgood c t)
    (by rw [start_eq m c t s hs]; exact (stAt_succ m c t).symm) _)
  isplitl [Hs]; · iexact Hs
  isplitl [H1]; · iexact H1
  isplitl [H0 H2 H3 H4 H5 H6 H7]
  · isplitl [H0]; · iexact H0
    isplitl [H2]; · iexact H2
    isplitl [H3]; · iexact H3
    isplitl [H4]; · iexact H4
    isplitl [H5]; · iexact H5
    isplitl [H6]; · iexact H6
    iexact H7
  isplitl [H8]; · iexact H8
  iintro %f8' %ho ⟨Hs, H1, ⟨H0, H2, H3, H4, H5, H6, H7⟩, H8⟩
  isplitl [Hs Hr]
  · isplitl [Hs]
    · iexists _; isplitr; swap; (· iexact Hs); ipureintro; exact fun _ => rfl
    iexact Hr
  isplitl [Ho]; · iexact Ho
  isplitl [H0]; · iapply (win_owns c 0 t _ f0 (by dsimp only [dats]; exact hf0)); iexact H0
  isplitl [H1]; · iapply (win_owns c 1 t _ f1 (by dsimp only [dats]; exact hf1)); iexact H1
  isplitl [H2]; · iapply (win_owns c 2 t _ f2 (by dsimp only [dats]; exact hf2)); iexact H2
  isplitl [H3]; · iapply (win_owns c 3 t _ f3 (by dsimp only [dats]; exact hf3)); iexact H3
  isplitl [H4]; · iapply (win_owns c 4 t _ f4 (by dsimp only [dats]; exact hf4)); iexact H4
  isplitl [H5]; · iapply (win_owns c 5 t _ f5 (by dsimp only [dats]; exact hf5)); iexact H5
  isplitl [H6]; · iapply (win_owns c 6 t _ f6 (by dsimp only [dats]; exact hf6)); iexact H6
  isplitl [H7]; · iapply (win_owns c 7 t _ f7 (by dsimp only [dats]; exact hf7)); iexact H7
  by_cases h : t.val = 24
  · have hl : idle0 8 (grid0.coords t) = false := live_8 (F := F) t h
    simp only [hl]
    unfold outBuf at ho; rw [if_pos ((isLast_iff t).2 h)] at ho
    iapply (win_owns c 8 t _ f8' (by dsimp only [dats]; exact ho)); iexact H8
  · have hl : idle0 8 (grid0.coords t) = true := idle_8 (F := F) t h
    have hf : (win0 8).flush t = false := flush_8 (F := F) t h
    simp only [hl, hf]
    unfold outBuf at ho; rw [if_neg (fun h' => h ((isLast_iff t).1 h'))] at ho; subst ho
    iexists d8
    iapply (win_owns c 8 t _ f8' hf8); iexact H8

/-- Before the first point the invariant asks nothing of the scratch arrays' contents, -/
theorem Φ_in (c : Dev nD) : Pipeline.ΦA (U := UR sig nD τ) (Val := Elt F) spec0 c ⊢ (dats m 0 c).Φ 0 := by
  rw [show (dats m 0 c).Φ 0 = Φc m c 0 from rfl]
  unfold Pipeline.ΦA Φc held; rw [scopedRest0_eq]
  iintro ⟨⟨⟨%f, Hf⟩, ⟨%g, Hg⟩⟩, Hr⟩
  isplitl [Hf Hg]
  · iexists (f, g); isplitr; · ipureintro; exact fun h => absurd rfl h
    isplitl [Hf]; · iexact Hf
    iexact Hg
  iexact Hr

/-- and after the last it gives them back at something. -/
theorem Φ_out (c : Dev nD) : (dats m 0 c).Φ (Fin.last (cfg0 (F := F)).N) ⊢ Pipeline.ΦA (U := UR sig nD τ) (Val := Elt F) spec0 c := by
  rw [show (dats m 0 c).Φ (Fin.last (cfg0 (F := F)).N) = Φc m c (cfg0 (F := F)).N from rfl]
  unfold Pipeline.ΦA Φc held; rw [scopedRest0_eq]
  iintro ⟨⟨%s, %hs, Hf, Hg⟩, Hr⟩
  isplitl [Hf Hg]
  · isplitl [Hf]; · iexists _; iexact Hf
    iexists _; iexact Hg
  iexact Hr

/-- The host part of the program: the four reshapes, then the kernel. -/
theorem hmain : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub ⟨rfl, rfl, rfl, rfl⟩ main_chain

set_option backward.isDefEq.respectTransparency.types false in
include hgood in
/-- The launch: every array at what the pipeline leaves, every other buffer as when the kernel starts, the counters at zero. -/
theorem run_raw : θ_run defs (onTc (τ := τ) (main (F := F))) (s₀ m ρ)
    (fun r => Pipeline.FramePost cfgs (dats m) 0 (V m) r ∧ r.2.sem = fun _ => 0) :=
  Pipeline.θ_run_frame_track cfgs (dats m) 0 launch0 defs₀ 𝒱₀ m ρ main (fun c => body_obligation m hgood c)
    (fun c w => (dats m 0 c).share_full (fun _ => rfl) w) (fun _ _ => rfl) (V m) (hmain m) (A_eq m) (Φ_in m) (Φ_out m) _ (fun _ h => h)

/-! ## What the run leaves -/

/-- The last grid point. -/
abbrev tLast : Fin grid0.N := ⟨24, by decide⟩

/-- The result: the quotient taken from the scratch arrays after all 25 blocks. -/
abbrev result (c : Dev nD) : Buf (Elt F) ((c : Thread nD τ).loc main_v4) := finish (stAt m c 25)

/-- The block that is written back is the finished result. -/
theorem flushed_eq (c : Dev nD) (t : Fin (cfg0 (F := F)).N) (hf : ((cfg0 (F := F)).win 8).flush t = true) :
    (dats m 0 c).flushed 8 t = (((cfg0 (F := F)).win 8).blk t).view.read (Elt F) (result m c) := by
  have hN : (cfg0 (F := F)).N = 25 := N_0
  have h24 : t.val = 24 := by have := (flush0_8 t).mp hf; have := t.isLt; omega
  obtain rfl : t = tLast := Fin.ext h24
  show ((cfg0 (F := F)).win 8).cut (grid0.coords tLast) ((dats m 0 c).after 8 tLast) = _
  have ha : (dats m 0 c).after 8 tLast = finish (stAt m c 25) := by dsimp only [dats]; rfl
  rw [ha]
  have hz' : (fun a => win0_8.index tLast a * main_v4.ty.shape.size a) = fun _ => 0 := funext fun a => by fin_cases a <;> decide
  exact (Memref.read_access_unit_zero (Elt F) main_v4 hz' (fun a => by rw [congrFun hz' a]; simp) (result m c)).symm

/-- The one write-back covers the result's array: -/
theorem covers (i : S10000x128.Idx) : i ∈ ((View.whole main_v4).slice (win0_8.rect tLast)).set := by
  rw [View.set_slice_whole]
  show i ∈ (Rect.unit (s := S10000x128) (fun a => win0_8.index tLast a * win0_8.size a) (win0_8.xsize (grid0.coords tLast)) _).set
  rw [Rect.mem_set_unit]
  intro a
  have h0 : (i 0 : Nat) < 10000 := (i 0).isLt
  have h1 : (i 1 : Nat) < 128 := (i 1).isLt
  match a with
  | ⟨0, _⟩ => show win0_8.index tLast 0 * win0_8.size 0 ≤ (i 0 : Nat) ∧ (i 0 : Nat) < win0_8.index tLast 0 * win0_8.size 0 + win0_8.xsize (grid0.coords tLast) 0
              rw [show win0_8.index tLast 0 * win0_8.size 0 = 0 from by decide +kernel, show win0_8.xsize (grid0.coords tLast) 0 = 10000 from by decide +kernel]; omega
  | ⟨1, _⟩ => show win0_8.index tLast 1 * win0_8.size 1 ≤ (i 1 : Nat) ∧ (i 1 : Nat) < win0_8.index tLast 1 * win0_8.size 1 + win0_8.xsize (grid0.coords tLast) 1
              rw [show win0_8.index tLast 1 * win0_8.size 1 = 0 from by decide +kernel, show win0_8.xsize (grid0.coords tLast) 1 = 128 from by decide +kernel]; omega

/-- so that the array ends at the result. -/
theorem final_out (c : Dev nD) : (dats m 0 c).arrAt 8 (cfg0 (F := F)).N = result m c :=
  (dats m 0 c).arrAt_eq_of_cover 8 (result m c) (flushed_eq m c) fun i => ⟨tLast, (flush0_8 tLast).mpr rfl, covers i⟩

/-- The arguments no window stages are among the buffers the pipeline does not touch. -/
theorem rest_main_arg1 : main_arg1 ∈ Pipeline.restRefs sig spec0 := Pipeline.mem_restRefs_of main_arg1 (by decide) (by decide)
/-- Argument 2 is no window's array. -/
theorem rest_main_arg2 : main_arg2 ∈ Pipeline.restRefs sig spec0 := Pipeline.mem_restRefs_of main_arg2 (by decide) (by decide)
/-- Argument 3 is no window's array. -/
theorem rest_main_arg3 : main_arg3 ∈ Pipeline.restRefs sig spec0 := Pipeline.mem_restRefs_of main_arg3 (by decide) (by decide)
/-- Argument 5 is no window's array. -/
theorem rest_main_arg5 : main_arg5 ∈ Pipeline.restRefs sig spec0 := Pipeline.mem_restRefs_of main_arg5 (by decide) (by decide)
/-- Argument 7 is no window's array. -/
theorem rest_main_arg7 : main_arg7 ∈ Pipeline.restRefs sig spec0 := Pipeline.mem_restRefs_of main_arg7 (by decide) (by decide)
/-- Argument 9 is no window's array. -/
theorem rest_main_arg9 : main_arg9 ∈ Pipeline.restRefs sig spec0 := Pipeline.mem_restRefs_of main_arg9 (by decide) (by decide)

include hgood in
/-- The run: it terminates with the result's array at `result`, the arguments as launched, every counter at zero. -/
theorem run : θ_run defs (onTc (τ := τ) (main (F := F))) ⟨m, fun _ => 0, ρ⟩
    (fun r => (∀ c : Dev nD, r.2.mem ((c : Thread nD τ).loc main_v4) = result m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7)
        ∧ r.2.mem ((c : Thread nD τ).loc main_arg8) = m ((c : Thread nD τ).loc main_arg8)
        ∧ r.2.mem ((c : Thread nD τ).loc main_arg9) = m ((c : Thread nD τ).loc main_arg9))
      ∧ r.2.sem = fun _ => 0) :=
  (θ_run defs _ _).mono (fun _ h => ⟨fun c => ⟨((h.1 c).1 8).trans (final_out m c),
      (((h.1 c).1 0).trans ((dats m 0 c).arrAt_in 0 rfl _)).trans (V_of_ne m c main_arg0 (by decide)),
      ((h.1 c).2 main_arg1 (rest_main_arg1)).trans (V_of_ne m c main_arg1 (by decide)),
      ((h.1 c).2 main_arg2 (rest_main_arg2)).trans (V_of_ne m c main_arg2 (by decide)),
      ((h.1 c).2 main_arg3 (rest_main_arg3)).trans (V_of_ne m c main_arg3 (by decide)),
      (((h.1 c).1 2).trans ((dats m 0 c).arrAt_in 2 rfl _)).trans (V_of_ne m c main_arg4 (by decide)),
      ((h.1 c).2 main_arg5 (rest_main_arg5)).trans (V_of_ne m c main_arg5 (by decide)),
      (((h.1 c).1 4).trans ((dats m 0 c).arrAt_in 4 rfl _)).trans (V_of_ne m c main_arg6 (by decide)),
      ((h.1 c).2 main_arg7 (rest_main_arg7)).trans (V_of_ne m c main_arg7 (by decide)),
      (((h.1 c).1 6).trans ((dats m 0 c).arrAt_in 6 rfl _)).trans (V_of_ne m c main_arg8 (by decide)),
      ((h.1 c).2 main_arg9 (rest_main_arg9)).trans (V_of_ne m c main_arg9 (by decide))⟩, h.2⟩) (run_raw m ρ hgood)

end Cert.KI

end
-- ==== Proof.KI.Reads.lean ====
/-
  What the idealized kernel's blocks are of the arguments: at grid point `t` the ids and the rows numbered
  `12800 t … 12800 t + 12799`, and the whole of each weight array.
-/
module

public import proofs.«01_k».proof.Proof.KI.Run
public import Idealize.ShloMosaic.Lib.ValueIdxCore
public import Idealize.ShloMosaic.Lib.Pointwise.Reshape
public import Idealize.ShloMosaic.Lib.StableHlo.Run

@[expose] public section

noncomputable section

namespace Cert.KI

open Cert.KernelIdeal Cert.KernelIdeal.Gen Cert.Seg

open Idealize.ShloMosaic hiding ix1 ix2 ix3 eq_ix2
open Idealize.ShloMosaic.TcCoe Idealize.ShloMosaic.ValueIdx

variable {F : FTy → Type} [FloatOps F]

variable (m : (ℓ : Loc nD τ sig) → Buf (Elt F) ℓ) (c : Dev nD)

/-- The ids reach the kernel as 25 blocks, -/
theorem V_v0 : V m c main_v0 = shapeCast S25x1x12800 (m ((c : Thread nD τ).loc main_arg1)) shapeCasts_S320000_S25x1x12800 := by
  show StableHlo.after hostOps0 (V₀ m c) (Proc.devRef .tc main_v0) = _
  after_results
  rfl

/-- the first bias as a row, -/
theorem V_v1 : V m c main_v1 = shapeCast S1x32 (m ((c : Thread nD τ).loc main_arg5)) shapeCasts_S32_S1x32 := by
  show StableHlo.after hostOps0 (V₀ m c) (Proc.devRef .tc main_v1) = _
  after_results
  rfl

/-- the second as a row, -/
theorem V_v2 : V m c main_v2 = shapeCast S1x64 (m ((c : Thread nD τ).loc main_arg7)) shapeCasts_S64_S1x64 := by
  show StableHlo.after hostOps0 (V₀ m c) (Proc.devRef .tc main_v2) = _
  after_results
  rfl

/-- and the third as a row. -/
theorem V_v3 : V m c main_v3 = shapeCast S1x128 (m ((c : Thread nD τ).loc main_arg9)) shapeCasts_S128_S1x128 := by
  show StableHlo.after hostOps0 (V₀ m c) (Proc.devRef .tc main_v3) = _
  after_results
  rfl

/-- Row `r` of block `t`, numbered among all rows. -/
def rowOf (t : Fin grid0.N) (r : Fin 12800) : Fin 320000 :=
  ⟨t.val * 12800 + r.val, by have h1 := t.isLt; have h2 : grid0.N = 25 := N_0; have h3 := r.isLt; omega⟩

/-- The rows' window follows the point, -/
theorem index_0 : ∀ t : Fin grid0.N, win0_0.index t 0 = t.val ∧ win0_0.index t 1 = 0 := by decide
/-- and so does the ids'. -/
theorem index_1 : ∀ t : Fin grid0.N, win0_1.index t 0 = t.val ∧ win0_1.index t 1 = 0 ∧ win0_1.index t 2 = 0 := by decide

/-- The rows of block `t`. -/
theorem inBlk_0 (t : Fin grid0.N) (r : Fin 12800) (k : Fin 128) :
    inBlk m c 0 t (ix2 r k) = m ((c : Thread nD τ).loc main_arg0) (ix2 (rowOf t r) k) := by
  show (win0_0.blk t).view.read (Elt F) (V m c main_arg0) (ix2 r k) = _
  rw [V_of_ne m c main_arg0 (by decide), View.read_apply]
  have h : (win0_0.rect t).emb (ix2 r k) = ix2 (rowOf t r) k := funext fun a => Fin.ext (by
    rw [win0_0.rect_emb_val t (ix2 r k) a]
    match a with
    | ⟨0, _⟩ => show win0_0.index t 0 * 12800 + r.val = t.val * 12800 + r.val; rw [(index_0 t).1]
    | ⟨1, _⟩ => show win0_0.index t 1 * 128 + k.val = k.val; rw [(index_0 t).2]; omega)
  exact congrArg (m ((c : Thread nD τ).loc main_arg0)) h

/-- A block of ids as a row, read at one place. -/
theorem cast_row {α : Type} (x : S1x1x12800.Idx → α) (r : Fin 12800) :
    shapeCast S1x12800 x shapeCasts_S1x1x12800_S1x12800 (ix2 0 r) = x (ix3 0 0 r) :=
  shapeCast_apply x shapeCasts_S1x1x12800_S1x12800 (ix2 0 r) (ix3 0 0 r) (by
    have e1 : (S1x1x12800.rowMajor (ix3 0 0 r) : ℕ) = 0 * (1 * 12800) + 0 * 12800 + r.val := rowMajor_val3 _ _ _ rfl rfl
    have e2 : (S1x12800.rowMajor (ix2 0 r) : ℕ) = 0 * 12800 + r.val := rowMajor_val2 _ _ rfl
    omega)

/-- The ids as blocks, read at one place. -/
theorem cast_blocks {α : Type} (x : S320000.Idx → α) (t : Fin grid0.N) (r : Fin 12800) :
    shapeCast S25x1x12800 x shapeCasts_S320000_S25x1x12800 (ix3 (t.cast N_0) 0 r) = x (ix1 (rowOf t r)) :=
  shapeCast_apply x shapeCasts_S320000_S25x1x12800 (ix3 (t.cast N_0) 0 r) (ix1 (rowOf t r)) (by
    have e1 : (S25x1x12800.rowMajor (ix3 (t.cast N_0) 0 r) : ℕ) = t.val * (1 * 12800) + 0 * 12800 + r.val :=
      rowMajor_val3 _ _ _ rfl rfl
    have e2 : (S320000.rowMajor (ix1 (rowOf t r)) : ℕ) = t.val * 12800 + r.val := rowMajor_val1 _
    omega)

/-- Block `t` of the ids, read at one place. -/
theorem inBlk_1 (t : Fin grid0.N) (r : Fin 12800) :
    inBlk m c 1 t (ix3 0 0 r) = m ((c : Thread nD τ).loc main_arg1) (ix1 (rowOf t r)) := by
  show (win0_1.blk t).view.read (Elt F) (V m c main_v0) (ix3 0 0 r) = _
  rw [V_v0, View.read_apply]
  have h : (win0_1.rect t).emb (ix3 0 0 r) = ix3 (t.cast N_0) 0 r := funext fun a => Fin.ext (by
    rw [win0_1.rect_emb_val t (ix3 0 0 r) a]
    match a with
    | ⟨0, _⟩ => show win0_1.index t 0 * 1 + 0 = t.val; rw [(index_1 t).1]; omega
    | ⟨1, _⟩ => show win0_1.index t 1 * 1 + 0 = 0; rw [(index_1 t).2.1]
    | ⟨2, _⟩ => show win0_1.index t 2 * 12800 + r.val = r.val; rw [(index_1 t).2.2]; omega)
  refine (congrArg (shapeCast S25x1x12800 (m ((c : Thread nD τ).loc main_arg1)) shapeCasts_S320000_S25x1x12800) h).trans ?_
  exact cast_blocks _ t r

/-- The ids of block `t`. -/
theorem ids_apply (t : Fin grid0.N) (r : Fin 12800) :
    idsAt m c t (ix2 0 r) = m ((c : Thread nD τ).loc main_arg1) (ix1 (rowOf t r)) :=
  (cast_row (inBlk m c 1 t) r).trans (inBlk_1 m c t r)

/-- A place of a row vector is its second coordinate. -/
theorem eq_row (j : S1x12800.Idx) : ∃ r : Fin 12800, j = ix2 0 r :=
  ⟨j 1, (ValueIdx.eq_ix2 j).trans (congrArg (fun a : Fin 1 => ix2 a (j 1)) (Subsingleton.elim _ _))⟩

/-- Every id of a block is one of the argument's. -/
theorem ids_mem (t : Fin grid0.N) (j : S1x12800.Idx) : ∃ k, idsAt m c t j = m ((c : Thread nD τ).loc main_arg1) k := by
  obtain ⟨r, rfl⟩ := eq_row j
  exact ⟨_, ids_apply m c t r⟩

end Cert.KI

end
-- ==== Proof.Frames.lean ====
/-
  The frames: under the precondition every block's walk ends, so the kernel and its idealization run, leave their arguments as
  launched and every counter at zero; the reference does so with no precondition.
-/
module

public import proofs.«01_k».proof.Defs
public import proofs.«01_k».proof.Proof.Ints
public import proofs.«01_k».proof.Proof.Pre
public import proofs.«01_k».proof.Proof.KI.Reads
public import proofs.«01_k».proof.Proof.K.Reads
public import proofs.«01_k».proof.Proof.Gen.ReferenceIdeal
public import proofs.«01_k».proof.Proof.Gen.ReferenceIdeal.Run

@[expose] public section

noncomputable section

namespace Cert.FramesProof

open Idealize.ShloMosaic Idealize.SL.Sem Idealize.ShloMosaic.TcCoe

/-- The ids of each block of the idealized kernel name segments. -/
theorem inRange_ideal (m : (ℓ : Loc Cert.KernelIdeal.nD Cert.KernelIdeal.τ Cert.KernelIdeal.sig) → Buf (Elt Ideal) ℓ)
    (h : Cert.Pre_KernelIdeal m) (c : Dev Cert.KernelIdeal.nD) (t) : Cert.Seg.InRange (Cert.KI.idsAt m c t) := fun j => by
  obtain ⟨k, e⟩ := Cert.KI.ids_mem m c t j
  rw [e]
  exact Cert.PreProof.in_range _ _ _ _ _ _ _ _ _ _ (h c) k

/-- The two programs' conditions that a block's walk ends are one condition. -/
theorem chain_iff (v : Cert.Seg.Ids) (x : BitVec 32) : ∀ (n : ℕ) (w : BitVec 32), Cert.SegK.Chain v x n w ↔ Cert.Seg.Chain v x n w
  | 0, _ => Iff.rfl
  | n + 1, w => and_congr Iff.rfl (and_congr Iff.rfl (chain_iff v x n (Cert.Seg.nextW v w)))

/-- So either program's walk over a block's ids ends when the other's does. -/
theorem good_iff (v : Cert.Seg.Ids) : Cert.SegK.Good v ↔ Cert.Seg.Good v :=
  exists_congr fun n => chain_iff v (Cert.Seg.maxId v) (n + 1) (Cert.Seg.firstW v)

/-- Each block's walk in the kernel ends. -/
theorem good_kernel (m : (ℓ : Loc Cert.Kernel.nD Cert.Kernel.τ Cert.Kernel.sig) → Buf (Elt Bits) ℓ)
    (h : Cert.Pre_Kernel m) (c : Dev Cert.Kernel.nD) (t) : Cert.SegK.Good (Cert.K.idsAt m c t) := by
  refine (good_iff _).2 (Cert.Seg.good_of_inRange fun j => ?_)
  obtain ⟨k, e⟩ := Cert.K.ids_mem m c t j
  rw [e]
  exact Cert.PreProof.in_range _ _ _ _ _ _ _ _ _ _ (h c) k

/-- The kernel's frame. -/
theorem kernel : Cert.quiescent_Kernel := fun m g h =>
  (θ_run Cert.Kernel.defs _ _).mono (fun _ e => ⟨fun c => (e.1 c).2, e.2⟩) (Cert.K.run m g (good_kernel m h))

/-- The idealized kernel's frame. -/
theorem kernelIdeal : Cert.quiescent_KernelIdeal := fun m g h =>
  (θ_run Cert.KernelIdeal.defs _ _).mono (fun _ e => ⟨fun c => (e.1 c).2, e.2⟩)
    (Cert.KI.run m g fun c t => Cert.Seg.good_of_inRange (inRange_ideal m h c t))

/-- The reference's frame. -/
theorem referenceIdeal : Cert.quiescent_ReferenceIdeal := fun m g _ =>
  (θ_run Cert.ReferenceIdeal.defs _ _).mono (fun r e => ⟨fun c => (e c).2, sem_eq_zero_of_no_sems (by decide) r.2⟩)
    (Cert.ReferenceIdeal.Value.run m g)

/-- The reference's frame under the kernel's precondition. -/
theorem referenceIdeal_pre : Cert.quiescent_ReferenceIdeal_pre_ids_in_range := fun m g _ => referenceIdeal m g trivial

end Cert.FramesProof

end
-- ==== Proof.Val.Window.lean ====
/-
  One window over the extended reals: the block's rows whose id lies in the window are added to the sums at the row their id
  names, and one for each of them to the counts; every other entry stays.
-/
module

public import proofs.«01_k».proof.Proof.Ints
public import Idealize.ShloMosaic.Lib.MatmulPlain
public import Idealize.ShloMosaic.Lib.KernelVsHost
public import Idealize.ShloMosaic.Lib.ValueIdx
public import Idealize.ShloMosaic.Lib.Pointwise.Reshape
public import Idealize.ShloMosaic.PureOps.Ideal.Laws

@[expose] public section

noncomputable section

namespace Cert.Seg

open Cert.KernelIdeal Cert.KernelIdeal.Gen
open Idealize.ShloMosaic hiding ix1 ix2 ix3 eq_ix2
open Idealize.ShloMosaic.ValueIdx

/-- The id of row `r` of a block, as an integer. -/
def idOf (v4 : Ids) (r : Fin 12800) : ℤ := (v4 (ix2 0 r)).toInt

/-- A row number below 512 is an id less a window's start exactly when the id is that many rows into the window. -/
theorem word_eq_iff {w x : BitVec 32} (h : Win w) (hx : 0 ≤ x.toInt ∧ x.toInt < 10000) (i : ℕ) (hi : i < 512) :
    BitVec.ofNat 32 i = x - w ↔ x.toInt = w.toInt + i := by
  have h1 := h.lo
  have h2 := h.hi
  have e1 : (BitVec.ofNat 32 i).toInt = i := by
    have hn : (BitVec.ofNat 32 i).toNat = i := by rw [BitVec.toNat_ofNat]; omega
    rw [BitVec.toInt_eq_toNat_cond, hn, if_pos (by omega)]
  have e2 : (x - w).toInt = x.toInt - w.toInt := by
    rw [BitVec.toInt_sub, Int.bmod_eq_of_le (by omega) (by omega)]
  rw [← BitVec.toInt_inj, e1, e2]
  omega

/-- The one-hot matrix's entry: one where the row's id is the window's row, zero elsewhere. -/
theorem hot_apply {v4 : Ids} (hv : InRange v4) {w : BitVec 32} (h : Win w) (i : Fin 512) (r : Fin 12800) :
    k0_pay14 (F := Ideal) v4 rowNo w (ix2 i r) = if idOf v4 r = w.toInt + i.val then (1 : EReal) else 0 := by
  have hb : broadcastTo S512x12800 (subi v4 (broadcast S1x12800 w)) broadcasts_S1x12800_S512x12800 (ix2 i r) = v4 (ix2 0 r) - w :=
    broadcastTo_apply _ _ (ix2 i r) (ix2 0 r) fun a => by
      match a with
      | ⟨0, _⟩ => rfl
      | ⟨1, _⟩ => rfl
  have hn : rowNo (ix2 i r) = BitVec.ofNat 32 i.val := iota_single_apply .tc S512x12800 32 0 _ (ix2 i r)
  have e : k0_pay14 (F := Ideal) v4 rowNo w (ix2 i r)
      = (((((IntOp.cmpi .eq (BitVec.ofNat 32 i.val) (v4 (ix2 0 r) - w)).setWidth 32).toInt : ℤ) : ℝ) : EReal) := by
    show (((((IntOp.cmpi .eq (rowNo (ix2 i r)) (broadcastTo S512x12800 (subi v4 (broadcast S1x12800 w)) broadcasts_S1x12800_S512x12800
      (ix2 i r))).setWidth 32).toInt : ℤ) : ℝ) : EReal) = _
    rw [hb, hn]
  rw [e, toInt_setWidth_bit]
  have hi := word_eq_iff h (hv (ix2 0 r)) i.val i.isLt
  show _ = if (v4 (ix2 0 r)).toInt = _ then _ else _
  by_cases hc : BitVec.ofNat 32 i.val = v4 (ix2 0 r) - w
  · rw [if_pos (hi.1 hc), hc]
    simp [IntOp.cmpi]
  · rw [if_neg fun h' => hc (hi.2 h')]
    simp [IntOp.cmpi, hc]

/-- The window's addition to the sums. -/
theorem pay15_apply {v4 : Ids} (hv : InRange v4) {w : BitVec 32} (h : Win w) (y : FVec Ideal S12800x128 .f32)
    (x : S512x128.Idx → EReal) (i : Fin 512) (k : Fin 128) :
    k0_pay15 (F := Ideal) v4 rowNo y w x (ix2 i k)
      = x (ix2 i k) + ∑ r : Fin 12800, if idOf v4 r = w.toInt + i.val then y (ix2 r k) else 0 := by
  have e : k0_pay15 (F := Ideal) v4 rowNo y w x
      = shapeCast S512x128 (addf (F := Ideal) (φ := .f32) x (FloatOps.matmul (DotDims.plain 512 12800 128) none (k0_pay14 (F := Ideal) v4 rowNo w) y
          (constant S512x128 .f32 0x00000000#32))) shapeCasts_S512x128_S512x128 := rfl
  rw [e, shapeCast_self]
  refine congrArg (x (ix2 i k) + ·) ?_
  rw [Ideal.matmul_plain_apply]
  have z : (constant S512x128 .f32 0x00000000#32 : FVec Ideal S512x128 .f32) (ix2 i k) = (0 : EReal) := Ideal.ofBits_zero_f32
  rw [z, zero_add]
  refine Finset.sum_congr rfl fun r _ => ?_
  rw [hot_apply hv h]
  split
  · exact one_mul _
  · exact zero_mul _

/-- The window's addition to the counts. -/
theorem pay16_apply {v4 : Ids} (hv : InRange v4) {w : BitVec 32} (h : Win w)
    (x : S512x128.Idx → EReal) (i : Fin 512) (k : Fin 128) :
    k0_pay16 (F := Ideal) v4 rowNo w x (ix2 i k)
      = x (ix2 i k) + ∑ r : Fin 12800, if idOf v4 r = w.toInt + i.val then (1 : EReal) else 0 := by
  have e : k0_pay16 (F := Ideal) v4 rowNo w x
      = shapeCast S512x128 (addf (F := Ideal) (φ := .f32) x (broadcastTo S512x128 (shapeCast S512x1 (shapeCast S512x1
          (multiReduction .add [1] S512 (k0_pay14 (F := Ideal) v4 rowNo w) 0x00000000#32 reduces_S512x12800_S512 (.inl rfl) rfl)
          shapeCasts_S512_S512x1) shapeCasts_S512x1_S512x1) broadcasts_S512x1_S512x128)) shapeCasts_S512x128_S512x128 := rfl
  rw [e, shapeCast_self, shapeCast_self]
  refine congrArg (x (ix2 i k) + ·) ?_
  refine (broadcastTo_apply _ _ (ix2 i k) (ix2 i (0 : Fin 1)) fun a => by
      match a with
      | ⟨0, _⟩ => rfl
      | ⟨1, _⟩ => rfl).trans ?_
  refine (shapeCast_apply _ shapeCasts_S512_S512x1 (ix2 i (0 : Fin 1)) (ix1 i) (by
    have e1 : (S512.rowMajor (ix1 i) : ℕ) = i.val := rowMajor_val1 _
    have e2 : (S512x1.rowMajor (ix2 i (0 : Fin 1)) : ℕ) = i.val * 1 + 0 := rowMajor_val2 _ _ rfl
    omega)).trans ?_
  refine (Ideal.multiReduction_add_single _ _ reduces_S512x12800_S512 (.inl rfl) rfl (ix1 i)).trans ?_
  refine Finset.sum_congr rfl fun r _ => ?_
  rw [show reduces_S512x12800_S512.lift (ix1 i) r = ix2 i r from funext fun a => by
    match a with
    | ⟨0, _⟩ => rfl
    | ⟨1, _⟩ => rfl]
  exact hot_apply hv h i r

/-- Reading a window at its row `i`. -/
theorem winRead_apply {w : BitVec 32} (h : Win w) (f : S10512x128.Idx → EReal) (i : Fin 512) (k : Fin 128) (s : Fin 10512)
    (hs : s.val = w.toNat + i.val) : winRead (F := Ideal) w h.chk f (ix2 i k) = f (ix2 s k) :=
  congrArg f (funext fun a => Fin.ext (by
    rw [Rect.emb_apply]
    match a with
    | ⟨0, _⟩ => show w.toNat + 1 * i.val = s.val; omega
    | ⟨1, _⟩ => show 0 + 1 * k.val = k.val; omega))

/-- Replacing a window, at one of its rows, -/
theorem winWrite_in {w : BitVec 32} (h : Win w) (f : S10512x128.Idx → EReal) (x : S512x128.Idx → EReal) (i : Fin 512) (k : Fin 128)
    (s : Fin 10512) (hs : s.val = w.toNat + i.val) : winWrite (F := Ideal) w h.chk f x (ix2 s k) = x (ix2 i k) := by
  unfold winWrite updateSlice
  rw [dif_pos (fun a => by
    match a with
    | ⟨0, _⟩ => exact (⟨by show w.toNat ≤ s.val; omega, by show s.val < w.toNat + 512; have := i.isLt; omega⟩ : _ ∧ _)
    | ⟨1, _⟩ => exact (⟨Nat.zero_le _, by show k.val < 0 + 128; have := k.isLt; omega⟩ : _ ∧ _))]
  refine congrArg x (funext fun a => Fin.ext ?_)
  match a with
  | ⟨0, _⟩ => show s.val - w.toNat = i.val; omega
  | ⟨1, _⟩ => show k.val - 0 = k.val; omega

/-- and at any other row. -/
theorem winWrite_out {w : BitVec 32} (h : Win w) (f : S10512x128.Idx → EReal) (x : S512x128.Idx → EReal) (k : Fin 128)
    (s : Fin 10512) (hs : ¬(w.toNat ≤ s.val ∧ s.val < w.toNat + 512)) : winWrite (F := Ideal) w h.chk f x (ix2 s k) = f (ix2 s k) := by
  unfold winWrite updateSlice
  rw [dif_neg fun hin => hs (hin 0)]

/-- What a block's rows with a property add at row `s`: of each whose id is `s`, its value `g`. -/
def tally (v4 : Ids) (P : ℤ → Prop) [DecidablePred P] (g : Fin 12800 → EReal) (s : ℕ) : EReal :=
  ∑ r : Fin 12800, if idOf v4 r = s ∧ P (idOf v4 r) then g r else 0

/-- An id inside the window at `w`. -/
abbrev inWin (w : BitVec 32) (z : ℤ) : Prop := w.toInt ≤ z ∧ z < w.toInt + 512

/-- A window's replacement by "what was there, plus the tally of the window's row" adds the tally of the window's ids everywhere. -/
theorem write_tally (v4 : Ids) {w : BitVec 32} (h : Win w) (f : S10512x128.Idx → EReal) (x : S512x128.Idx → EReal)
    (g : Fin 12800 → EReal) (k : Fin 128)
    (hx : ∀ i : Fin 512, x (ix2 i k) = winRead (F := Ideal) w h.chk f (ix2 i k)
      + ∑ r : Fin 12800, if idOf v4 r = w.toInt + i.val then g r else 0) (s : Fin 10512) :
    winWrite (F := Ideal) w h.chk f x (ix2 s k) = f (ix2 s k) + tally v4 (inWin w) g s.val := by
  have hw := h.toNat
  by_cases hs : w.toNat ≤ s.val ∧ s.val < w.toNat + 512
  · have hi : s.val = w.toNat + (⟨s.val - w.toNat, by omega⟩ : Fin 512).val := by show _ = _ + (_ - _); omega
    rw [winWrite_in h f x _ k s hi, hx, winRead_apply h f _ k s hi]
    refine congrArg (f (ix2 s k) + ·) (Finset.sum_congr rfl fun r _ => if_congr ?_ rfl rfl)
    show idOf v4 r = w.toInt + ((s.val - w.toNat : ℕ) : ℤ) ↔ _ ∧ _ ∧ _
    omega
  · rw [winWrite_out h f x k s hs]
    refine (add_zero _).symm.trans (congrArg (f (ix2 s k) + ·) (Finset.sum_eq_zero fun r _ => if_neg ?_).symm)
    rintro ⟨h1, h2, h3⟩
    exact hs (by omega)

/-- One window, at row `s` and column `k` of the sums, -/
theorem step_sums {v4 : Ids} (hv : InRange v4) {w : BitVec 32} (h : Win w) (y : FVec Ideal S12800x128 .f32) (st : St Ideal)
    (s : Fin 10512) (k : Fin 128) :
    (step v4 rowNo y w h.chk st).1 (ix2 s k) = st.1 (ix2 s k) + tally v4 (inWin w) (fun r => y (ix2 r k)) s.val :=
  write_tally v4 h st.1 _ _ k (fun i => pay15_apply hv h y _ i k) s

/-- and of the counts. -/
theorem step_counts {v4 : Ids} (hv : InRange v4) {w : BitVec 32} (h : Win w) (y : FVec Ideal S12800x128 .f32) (st : St Ideal)
    (s : Fin 10512) (k : Fin 128) :
    (step v4 rowNo y w h.chk st).2 (ix2 s k) = st.2 (ix2 s k) + tally v4 (inWin w) (fun _ => 1) s.val :=
  write_tally v4 h st.2 _ _ k (fun i => pay16_apply hv h _ i k) s

end Cert.Seg

end
-- ==== Proof.Val.Walk.lean ====
/-
  A block's whole walk over the extended reals: it adds, at each row, the tally of ALL the block's rows whose id is that row. The
  windows do not overlap, and no id falls between two of them, so every row of the block is added exactly once.
-/
module

public import proofs.«01_k».proof.Proof.Val.Window

@[expose] public section

noncomputable section

namespace Cert.Seg

open Cert.KernelIdeal Cert.KernelIdeal.Gen
open Idealize.ShloMosaic hiding ix1 ix2 ix3 eq_ix2
open Idealize.ShloMosaic.ValueIdx

/-- Tallies over disjoint ranges of ids add up. -/
theorem tally_add (v4 : Ids) (P Q R : ℤ → Prop) [DecidablePred P] [DecidablePred Q] [DecidablePred R] (g : Fin 12800 → EReal) (s : ℕ)
    (h : ∀ r, (R (idOf v4 r) ↔ P (idOf v4 r) ∨ Q (idOf v4 r)) ∧ ¬(P (idOf v4 r) ∧ Q (idOf v4 r))) :
    tally v4 P g s + tally v4 Q g s = tally v4 R g s := by
  unfold tally
  rw [← Finset.sum_add_distrib]
  refine Finset.sum_congr rfl fun r _ => ?_
  obtain ⟨h1, h2⟩ := h r
  by_cases hs : idOf v4 r = s
  · by_cases hp : P (idOf v4 r)
    · have hq : ¬Q (idOf v4 r) := fun hq => h2 ⟨hp, hq⟩
      rw [if_pos ⟨hs, hp⟩, if_neg fun h => hq h.2, if_pos ⟨hs, h1.2 (.inl hp)⟩, add_zero]
    · by_cases hq : Q (idOf v4 r)
      · rw [if_neg fun h => hp h.2, if_pos ⟨hs, hq⟩, if_pos ⟨hs, h1.2 (.inr hq)⟩, zero_add]
      · rw [if_neg fun h => hp h.2, if_neg fun h => hq h.2, if_neg fun h => (h1.1 h.2).elim hp hq, add_zero]
  · rw [if_neg fun h => hs h.1, if_neg fun h => hs h.1, if_neg fun h => hs h.1, add_zero]

/-- A tally over no ids is zero. -/
theorem tally_none (v4 : Ids) (P : ℤ → Prop) [DecidablePred P] (g : Fin 12800 → EReal) (s : ℕ) (h : ∀ r, ¬P (idOf v4 r)) :
    tally v4 P g s = 0 := Finset.sum_eq_zero fun r _ => if_neg fun e => h r e.2

/-- An id not below the window at `w`. -/
abbrev fromWin (w : BitVec 32) (z : ℤ) : Prop := w.toInt ≤ z

/-- A walk that ends adds the tally of the ids from its first window on. -/
theorem walk_tally {v4 : Ids} (hv : InRange v4) (y : FVec Ideal S12800x128 .f32) : ∀ (n : ℕ) (w : BitVec 32),
    (Win w ∨ ∀ j, (v4 j).toInt < w.toInt) → Chain v4 (maxId v4) n w → ∀ (st : St Ideal) (s : Fin 10512) (k : Fin 128),
    (walk v4 rowNo y n w st).1 (ix2 s k) = st.1 (ix2 s k) + tally v4 (fromWin w) (fun r => y (ix2 r k)) s.val
      ∧ (walk v4 rowNo y n w st).2 (ix2 s k) = st.2 (ix2 s k) + tally v4 (fromWin w) (fun _ => 1) s.val
  | 0, w, _, hC, st, s, k => by
    have hn : ∀ r, ¬fromWin w (idOf v4 r) := fun r hr => by
      have h1 : ¬w.toInt ≤ (maxId v4).toInt := fun h => hC ((sle_iff _ _).2 h)
      have h2 : idOf v4 r ≤ (maxId v4).toInt := le_maxId v4 (ix2 0 r)
      exact h1 (le_trans hr h2)
    rw [tally_none v4 _ _ _ hn, tally_none v4 _ _ _ hn, add_zero, add_zero]
    exact ⟨rfl, rfl⟩
  | n + 1, w, hw, hC, st, s, k => by
    obtain ⟨hs, -, hC'⟩ := hC
    have h : Win w := hw.resolve_right fun hlt => by
      obtain ⟨i, hi⟩ := maxId_mem v4 fun j => (hv j).1
      have h1 := (sle_iff _ _).1 hs
      have h2 := hlt i
      omega
    have hnext := next_spec hv h
    have hw' : Win (nextW v4 w) ∨ ∀ j, (v4 j).toInt < (nextW v4 w).toInt := by
      rcases hnext with ⟨hW, -⟩ | ⟨he, -⟩
      · exact .inl hW
      · exact .inr fun j => by have := hv j; omega
    have hsplit : ∀ r, (fromWin w (idOf v4 r) ↔ inWin w (idOf v4 r) ∨ fromWin (nextW v4 w) (idOf v4 r))
        ∧ ¬(inWin w (idOf v4 r) ∧ fromWin (nextW v4 w) (idOf v4 r)) := fun r => by
      have hr := hv (ix2 0 r)
      show (w.toInt ≤ (v4 (ix2 0 r)).toInt ↔ (w.toInt ≤ (v4 (ix2 0 r)).toInt ∧ (v4 (ix2 0 r)).toInt < w.toInt + 512)
          ∨ (nextW v4 w).toInt ≤ (v4 (ix2 0 r)).toInt)
        ∧ ¬((w.toInt ≤ (v4 (ix2 0 r)).toInt ∧ (v4 (ix2 0 r)).toInt < w.toInt + 512) ∧ (nextW v4 w).toInt ≤ (v4 (ix2 0 r)).toInt)
      rcases hnext with ⟨-, hge, -, hall⟩ | ⟨he, hall⟩
      · have := hall (ix2 0 r)
        omega
      · have := hall (ix2 0 r)
        omega
    rw [walk_succ v4 rowNo y n w h.chk st]
    obtain ⟨e1, e2⟩ := walk_tally hv y n (nextW v4 w) hw' hC' (step v4 rowNo y w h.chk st) s k
    rw [e1, e2, step_sums hv h, step_counts hv h, add_assoc, add_assoc, tally_add v4 _ _ _ _ _ hsplit, tally_add v4 _ _ _ _ _ hsplit]
    exact ⟨rfl, rfl⟩

/-- What one block adds at row `s`: the values `g` of the rows whose id is `s`. -/
def hits (v4 : Ids) (g : Fin 12800 → EReal) (s : ℕ) : EReal := ∑ r : Fin 12800, if idOf v4 r = s then g r else 0

/-- One grid point, at row `s` and column `k` of the sums and of the counts. -/
theorem block_hits {v4 : Ids} (hv : InRange v4) (y : FVec Ideal S12800x128 .f32) (st : St Ideal) (s : Fin 10512) (k : Fin 128) :
    (block v4 y st).1 (ix2 s k) = st.1 (ix2 s k) + hits v4 (fun r => y (ix2 r k)) s.val
      ∧ (block v4 y st).2 (ix2 s k) = st.2 (ix2 s k) + hits v4 (fun _ => 1) s.val := by
  obtain ⟨hW, -, hall⟩ := first_spec hv
  have e : ∀ g : Fin 12800 → EReal, tally v4 (fromWin (firstW v4)) g s.val = hits v4 g s.val := fun g =>
    Finset.sum_congr rfl fun r _ => if_congr ⟨fun h => h.1, fun h => ⟨h, hall (ix2 0 r)⟩⟩ rfl rfl
  have := walk_tally hv y (trips v4 + 1) (firstW v4) (.inl hW) (trips_spec (good_of_inRange hv)) st s k
  rw [e, e] at this
  exact this

end Cert.Seg

end
-- ==== Proof.Val.Layers.lean ====
/-
  The perceptron, one row at a time: three affine layers, the first two with their negative values replaced by zero. A block's rows
  are the perceptron of the block's rows of the features.
-/
module

public import proofs.«01_k».proof.Proof.KI.Reads
public import Idealize.ShloMosaic.Lib.MatmulPlain
public import Idealize.ShloMosaic.Lib.KernelVsHost
public import Idealize.ShloMosaic.Lib.ValueIdx
public import Idealize.ShloMosaic.PureOps.Ideal.Laws
public import Idealize.ShloMosaic.Lib.IdealHost

@[expose] public section

noncomputable section

namespace Cert.Mlp

open Idealize.ShloMosaic hiding ix1 ix2 ix3 eq_ix2
open Idealize.ShloMosaic.ValueIdx Idealize.ShloMosaic.TcCoe

/-- A row through an affine layer: its product with the weights, plus the bias. -/
def layer {K N : ℕ} (x : Fin K → EReal) (W : (⟨2, ![K, N]⟩ : Shape).Idx → EReal) (b : (⟨1, ![N]⟩ : Shape).Idx → EReal) (n : Fin N) : EReal :=
  (∑ k : Fin K, x k * W (ix2 k n)) + b (ix1 n)

/-- A row through the perceptron. -/
def mlp (x : Fin 128 → EReal) (W1 : (⟨2, ![128, 32]⟩ : Shape).Idx → EReal) (b1 : (⟨1, ![32]⟩ : Shape).Idx → EReal)
    (W2 : (⟨2, ![32, 64]⟩ : Shape).Idx → EReal) (b2 : (⟨1, ![64]⟩ : Shape).Idx → EReal)
    (W3 : (⟨2, ![64, 128]⟩ : Shape).Idx → EReal) (b3 : (⟨1, ![128]⟩ : Shape).Idx → EReal) (n : Fin 128) : EReal :=
  layer (fun l => max (layer (fun j => max (layer x W1 b1 j) 0) W2 b2 l) 0) W3 b3 n

/-- A layer as the kernel writes it: a product into zeros, plus the one-row bias laid along every row. -/
theorem kernel_layer {M K N : ℕ} (x : FVec Ideal ⟨2, ![M, K]⟩ .f32) (W : FVec Ideal ⟨2, ![K, N]⟩ .f32)
    (b : FVec Ideal ⟨1, ![N]⟩ .f32) (hs : (⟨1, ![N]⟩ : Shape).ShapeCasts ⟨2, ![1, N]⟩)
    (hs' : (⟨2, ![1, N]⟩ : Shape).ShapeCasts ⟨2, ![1, N]⟩)
    (hb : (⟨2, ![1, N]⟩ : Shape).Broadcasts ⟨2, ![M, N]⟩) (r : Fin M) (n : Fin N) :
    addf (FloatOps.matmul (DotDims.plain M K N) none x W (constant ⟨2, ![M, N]⟩ .f32 0x00000000#32))
        (broadcastTo ⟨2, ![M, N]⟩ (shapeCast ⟨2, ![1, N]⟩ (shapeCast ⟨2, ![1, N]⟩ b hs) hs') hb) (ix2 r n)
      = layer (fun k => x (ix2 r k)) W b n := by
  rw [shapeCast_self]
  have z : (constant ⟨2, ![M, N]⟩ .f32 0x00000000#32 : FVec Ideal ⟨2, ![M, N]⟩ .f32) (ix2 r n) = (0 : EReal) := Ideal.ofBits_zero_f32
  have e1 : FloatOps.matmul (DotDims.plain M K N) none x W (constant ⟨2, ![M, N]⟩ .f32 0x00000000#32) (ix2 r n)
      = ∑ k : Fin K, x (ix2 r k) * W (ix2 k n) := by rw [Ideal.matmul_plain_apply, z, zero_add]
  have e2 : broadcastTo ⟨2, ![M, N]⟩ (shapeCast ⟨2, ![1, N]⟩ b hs) hb (ix2 r n) = b (ix1 n) :=
    (broadcastTo_apply _ hb (ix2 r n) (ix2 (0 : Fin 1) n) fun a => by
      match a with
      | ⟨0, _⟩ => rfl
      | ⟨1, _⟩ => show n.val = if N = 1 then 0 else n.val; have := n.isLt; split <;> omega).trans
    (shapeCast_apply b hs (ix2 (0 : Fin 1) n) (ix1 n) (by
      have e1 : ((⟨1, ![N]⟩ : Shape).rowMajor (ix1 n) : ℕ) = n.val := rowMajor_val1 _
      have e2 : ((⟨2, ![1, N]⟩ : Shape).rowMajor (ix2 (0 : Fin 1) n) : ℕ) = 0 * N + n.val := rowMajor_val2 _ _ rfl
      omega))
  exact congrArg₂ (· + ·) e1 e2

/-- A layer as the reference writes it: the host's product, plus the bias laid along every row. -/
theorem host_layer {M K N : ℕ} (x : FVec Ideal ⟨2, ![M, K]⟩ .f32) (W : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (r : Fin M) (n : Fin N) :
    addf (Host.dotGeneral (DotDims.plain M K N) none x W)
        (broadcastInDim ⟨2, ![M, N]⟩ ![0, 1] h2 (broadcastInDim ⟨2, ![1, N]⟩ ![1] h1 b)) (ix2 r n)
      = layer (fun k => x (ix2 r k)) W b n := by
  have z : (constant ⟨2, ![M, N]⟩ .f32 0x00000000#32 : FVec Ideal ⟨2, ![M, N]⟩ .f32) (ix2 r n) = (0 : EReal) := Ideal.ofBits_zero_f32
  have e1 : Host.dotGeneral (DotDims.plain M K N) none x W (ix2 r n) = ∑ k : Fin K, x (ix2 r k) * W (ix2 k n) := by
    rw [← matmul_zero_eq_dotGeneral]
    show FloatOps.matmul (DotDims.plain M K N) none x W (constant ⟨2, ![M, N]⟩ .f32 0x00000000#32) (ix2 r n) = _
    rw [Ideal.matmul_plain_apply, z, zero_add]
  have e2 : broadcastInDim ⟨2, ![M, N]⟩ ![0, 1] h2 (broadcastInDim ⟨2, ![1, N]⟩ ![1] h1 b) (ix2 r n) = b (ix1 n) :=
    (broadcastInDim_oneRow_apply h2 _ r n).trans (broadcastInDim_apply ![1] h1 b (ix2 (0 : Fin 1) n) (ix1 n) fun a => by
      match a with
      | ⟨0, _⟩ => show n.val = if N = 1 then 0 else n.val; have := n.isLt; split <;> omega)
  exact congrArg₂ (· + ·) e1 e2

/-- Replacing negative values by zero, as both write it. -/
theorem relu_apply {M N : ℕ} (x : FVec Ideal ⟨2, ![M, N]⟩ .f32) (z : FVec Ideal ⟨2, ![M, N]⟩ .f32) (i : (⟨2, ![M, N]⟩ : Shape).Idx)
    (hz : z i = (0 : EReal)) : maximumf x z i = max (x i : EReal) 0 := by
  show max (x i : EReal) (z i) = _
  rw [hz]

open Cert.KernelIdeal Cert.KernelIdeal.Gen Cert.KI

/-- The block's perceptron as the kernel computes it, row by row. -/
theorem pay11_apply (x : FVec Ideal S12800x128 .f32) (W1 : FVec Ideal S128x32 .f32) (b1 : FVec Ideal S32 .f32)
    (W2 : FVec Ideal S32x64 .f32) (b2 : FVec Ideal S64 .f32) (W3 : FVec Ideal S64x128 .f32) (b3 : FVec Ideal S128 .f32)
    (r : Fin 12800) (n : Fin 128) :
    k0_pay11 (F := Ideal) x W1 (shapeCast S1x32 b1 shapeCasts_S32_S1x32) W2 (shapeCast S1x64 b2 shapeCasts_S64_S1x64) W3
        (shapeCast S1x128 b3 shapeCasts_S128_S1x128) (ix2 r n)
      = mlp (fun k => x (ix2 r k)) W1 b1 W2 b2 W3 b3 n := by
  refine (kernel_layer (M := 12800) (K := 64) (N := 128) _ W3 b3 shapeCasts_S128_S1x128 shapeCasts_S1x128_S1x128
    broadcasts_S1x128_S12800x128 r n).trans ?_
  refine congrArg (fun g => layer g W3 b3 n) (funext fun l => ?_)
  refine (relu_apply (M := 12800) (N := 64) _ _ (ix2 r l) Ideal.ofBits_zero_f32).trans (congrArg (max · (0 : EReal)) ?_)
  refine (kernel_layer (M := 12800) (K := 32) (N := 64) _ W2 b2 shapeCasts_S64_S1x64 shapeCasts_S1x64_S1x64
    broadcasts_S1x64_S12800x64 r l).trans ?_
  refine congrArg (fun g => layer g W2 b2 l) (funext fun j => ?_)
  refine (relu_apply (M := 12800) (N := 32) _ _ (ix2 r j) Ideal.ofBits_zero_f32).trans (congrArg (max · (0 : EReal)) ?_)
  exact kernel_layer (M := 12800) (K := 128) (N := 32) x W1 b1 shapeCasts_S32_S1x32 shapeCasts_S1x32_S1x32
    broadcasts_S1x32_S12800x32 r j

variable (m : (ℓ : Loc nD τ sig) → Buf (Elt Ideal) ℓ) (c : Dev nD)

/-- Window 2 stays at its array's origin. -/
theorem index_2 : ∀ t : Fin grid0.N, (fun a => win0_2.index t a * main_arg4.ty.shape.size a) = fun _ => 0 := fun t => funext fun a => by
  revert t a; decide
/-- Window 3 stays at its array's origin. -/
theorem index_3 : ∀ t : Fin grid0.N, (fun a => win0_3.index t a * main_v1.ty.shape.size a) = fun _ => 0 := fun t => funext fun a => by
  revert t a; decide
/-- Window 4 stays at its array's origin. -/
theorem index_4 : ∀ t : Fin grid0.N, (fun a => win0_4.index t a * main_arg6.ty.shape.size a) = fun _ => 0 := fun t => funext fun a => by
  revert t a; decide
/-- Window 5 stays at its array's origin. -/
theorem index_5 : ∀ t : Fin grid0.N, (fun a => win0_5.index t a * main_v2.ty.shape.size a) = fun _ => 0 := fun t => funext fun a => by
  revert t a; decide
/-- Window 6 stays at its array's origin. -/
theorem index_6 : ∀ t : Fin grid0.N, (fun a => win0_6.index t a * main_arg8.ty.shape.size a) = fun _ => 0 := fun t => funext fun a => by
  revert t a; decide
/-- Window 7 stays at its array's origin. -/
theorem index_7 : ∀ t : Fin grid0.N, (fun a => win0_7.index t a * main_v3.ty.shape.size a) = fun _ => 0 := fun t => funext fun a => by
  revert t a; decide

/-- The first weights reach every block whole, -/
theorem inBlk_2 (t : Fin grid0.N) : inBlk m c 2 t = m ((c : Thread nD τ).loc main_arg4) :=
  (Memref.read_access_unit_zero (Elt Ideal) main_arg4 (index_2 t) (fun a => by rw [congrFun (index_2 t) a]; simp) (V m c main_arg4)).trans
    (V_of_ne m c main_arg4 (by decide))
/-- the first bias as a row, -/
theorem inBlk_3 (t : Fin grid0.N) : inBlk m c 3 t = shapeCast S1x32 (m ((c : Thread nD τ).loc main_arg5)) shapeCasts_S32_S1x32 :=
  (Memref.read_access_unit_zero (Elt Ideal) main_v1 (index_3 t) (fun a => by rw [congrFun (index_3 t) a]; simp) (V m c main_v1)).trans
    (V_v1 m c)
/-- the second weights whole, -/
theorem inBlk_4 (t : Fin grid0.N) : inBlk m c 4 t = m ((c : Thread nD τ).loc main_arg6) :=
  (Memref.read_access_unit_zero (Elt Ideal) main_arg6 (index_4 t) (fun a => by rw [congrFun (index_4 t) a]; simp) (V m c main_arg6)).trans
    (V_of_ne m c main_arg6 (by decide))
/-- the second bias as a row, -/
theorem inBlk_5 (t : Fin grid0.N) : inBlk m c 5 t = shapeCast S1x64 (m ((c : Thread nD τ).loc main_arg7)) shapeCasts_S64_S1x64 :=
  (Memref.read_access_unit_zero (Elt Ideal) main_v2 (index_5 t) (fun a => by rw [congrFun (index_5 t) a]; simp) (V m c main_v2)).trans
    (V_v2 m c)
/-- the third weights whole, -/
theorem inBlk_6 (t : Fin grid0.N) : inBlk m c 6 t = m ((c : Thread nD τ).loc main_arg8) :=
  (Memref.read_access_unit_zero (Elt Ideal) main_arg8 (index_6 t) (fun a => by rw [congrFun (index_6 t) a]; simp) (V m c main_arg8)).trans
    (V_of_ne m c main_arg8 (by decide))
/-- and the third bias as a row. -/
theorem inBlk_7 (t : Fin grid0.N) : inBlk m c 7 t = shapeCast S1x128 (m ((c : Thread nD τ).loc main_arg9)) shapeCasts_S128_S1x128 :=
  (Memref.read_access_unit_zero (Elt Ideal) main_v3 (index_7 t) (fun a => by rw [congrFun (index_7 t) a]; simp) (V m c main_v3)).trans
    (V_v3 m c)

/-- Row `i` of all the rows, through the perceptron with the argument weights. -/
def row (i : Fin 320000) (n : Fin 128) : EReal :=
  mlp (fun k => m ((c : Thread nD τ).loc main_arg0) (ix2 i k)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) n

/-- The rows of block `t` are the perceptron's. -/
theorem rowsAt_apply (t : Fin grid0.N) (r : Fin 12800) (n : Fin 128) : rowsAt m c t (ix2 r n) = row m c (rowOf t r) n := by
  unfold rowsAt
  rw [inBlk_2, inBlk_3, inBlk_4, inBlk_5, inBlk_6, inBlk_7]
  refine (pay11_apply (inBlk m c 0 t) _ _ _ _ _ _ r n).trans ?_
  exact congrArg (fun g => mlp g _ _ _ _ _ _ n) (funext fun k => inBlk_0 m c t r k)

end Cert.Mlp

end
-- ==== Proof.Val.Total.lean ====
/-
  The idealized kernel's result, entry by entry: the 25 blocks together hold each of the 320000 rows once, so the sums hold at each
  segment the sum of the perceptron's rows whose id names it, the counts the number of those rows, and the result is their quotient
  (zero for a segment without rows).
-/
module

public import proofs.«01_k».proof.Proof.Val.Walk
public import proofs.«01_k».proof.Proof.Val.Layers

@[expose] public section

noncomputable section

namespace Cert.Total

open Cert.KernelIdeal Cert.KernelIdeal.Gen Cert.Seg Cert.KI Cert.Mlp
open Idealize.ShloMosaic hiding ix1 ix2 ix3 eq_ix2
open Idealize.ShloMosaic.ValueIdx Idealize.ShloMosaic.TcCoe

/-- Over all rows: the values `g` of those whose id is `s`. -/
def segSum (ids : IVec S320000 32) (g : Fin 320000 → EReal) (s : ℕ) : EReal :=
  ∑ i : Fin 320000, if (ids (ix1 i)).toInt = s then g i else 0

/-- The mean from a sum and a count: the quotient, zero where the count is not positive. -/
def mean (sum cnt : EReal) : EReal :=
  Scalar.select (Ideal.cmp .ogt cnt 0) (Ideal.div sum (max cnt 1)) 0

/-- A row's number from its block and its place there. -/
def rowEquiv : Fin 25 × Fin 12800 ≃ Fin 320000 := finProdFinEquiv.trans (finCongr (by norm_num))

/-- The row of a block and a place in it. -/
theorem rowEquiv_apply (t : Fin 25) (r : Fin 12800) : rowEquiv (t, r) = rowOf (t.cast N_0.symm) r :=
  Fin.ext (by show r.val + 12800 * t.val = t.val * 12800 + r.val; omega)

variable (m : (ℓ : Loc nD τ sig) → Buf (Elt Ideal) ℓ) (c : Dev nD)

/-- The argument's ids. -/
abbrev ids : IVec S320000 32 := m ((c : Thread nD τ).loc main_arg1)

/-- What block `t` adds of the values `g`, at row `s`. -/
theorem hits_rows (t : Fin grid0.N) (g : Fin 320000 → EReal) (s : ℕ) :
    hits (idsAt m c t) (fun r => g (rowOf t r)) s
      = ∑ r : Fin 12800, if (ids m c (ix1 (rowOf t r))).toInt = s then g (rowOf t r) else 0 :=
  Finset.sum_congr rfl fun r _ => by
    unfold idOf
    rw [ids_apply]

/-- The blocks' additions together. -/
theorem sum_blocks (g : Fin 320000 → EReal) (s : ℕ) :
    ∑ t : Fin 25, hits (idsAt m c (t.cast N_0.symm)) (fun r => g (rowOf (t.cast N_0.symm) r)) s = segSum (ids m c) g s := by
  unfold segSum
  rw [← Equiv.sum_comp rowEquiv, Fintype.sum_prod_type]
  refine Finset.sum_congr rfl fun t _ => ?_
  rw [hits_rows]
  exact Finset.sum_congr rfl fun r _ => by rw [rowEquiv_apply]

/-- Both accumulators start at zero. -/
theorem zero_apply (j : S10512x128.Idx) : (zeroSt (F := Ideal)).1 j = (0 : EReal) ∧ (zeroSt (F := Ideal)).2 j = (0 : EReal) := by
  have e1 : (zeroSt (F := Ideal)).1 = broadcast S10512x128 (Scalar.ofBits .f32 0x00000000#32 : Ideal .f32) :=
    shapeCast_self (broadcast S10512x128 (Scalar.ofBits .f32 0x00000000#32 : Ideal .f32)) shapeCasts_S10512x128_S10512x128
  have e2 : (zeroSt (F := Ideal)).2 = broadcast S10512x128 (Scalar.ofBits .f32 0x00000000#32 : Ideal .f32) :=
    shapeCast_self (broadcast S10512x128 (Scalar.ofBits .f32 0x00000000#32 : Ideal .f32)) shapeCasts_S10512x128_S10512x128
  rw [e1, e2]
  exact ⟨Ideal.ofBits_zero_f32, Ideal.ofBits_zero_f32⟩

variable (hv : ∀ t, InRange (idsAt m c t))

include hv in
/-- The two arrays after the first `n` blocks. -/
theorem stAt_apply (s : Fin 10512) (k : Fin 128) : ∀ (n : ℕ) (hn : n ≤ 25),
    (stAt m c n).1 (ix2 s k) = ∑ t : Fin n, hits (idsAt m c ((t.castLE hn).cast N_0.symm))
        (fun r => row m c (rowOf ((t.castLE hn).cast N_0.symm) r) k) s.val
      ∧ (stAt m c n).2 (ix2 s k) = ∑ t : Fin n, hits (idsAt m c ((t.castLE hn).cast N_0.symm)) (fun _ => 1) s.val
  | 0, _ => by
    rw [Fin.sum_univ_zero, Fin.sum_univ_zero]
    exact zero_apply _
  | n + 1, hn => by
    obtain ⟨e1, e2⟩ := stAt_apply s k n (by omega)
    have hN : grid0.N = 25 := N_0
    have hlt : n < grid0.N := by omega
    have hb := block_hits (hv ⟨n, hlt⟩) (rowsAt m c ⟨n, hlt⟩) (stAt m c n) s k
    rw [← stAt_succ m c ⟨n, hlt⟩, e1, e2] at hb
    rw [Fin.sum_univ_castSucc, Fin.sum_univ_castSucc]
    refine ⟨hb.1.trans ?_, hb.2⟩
    refine congrArg₂ (· + ·) rfl (congrArg (fun g => hits (idsAt m c ⟨n, hlt⟩) g s.val) (funext fun r => ?_))
    exact rowsAt_apply m c ⟨n, hlt⟩ r k

include hv in
/-- The two arrays after all the blocks. -/
theorem stAt_all (s : Fin 10512) (k : Fin 128) :
    (stAt m c 25).1 (ix2 s k) = segSum (ids m c) (fun i => row m c i k) s.val
      ∧ (stAt m c 25).2 (ix2 s k) = segSum (ids m c) (fun _ => 1) s.val := by
  obtain ⟨e1, e2⟩ := stAt_apply m c hv s k 25 le_rfl
  exact ⟨e1.trans (sum_blocks m c (fun i => row m c i k) s.val), e2.trans (sum_blocks m c (fun _ => 1) s.val)⟩

/-- The result from two arrays, entry by entry. -/
theorem pay3_apply (a b : S10000x128.Idx → EReal) (j : S10000x128.Idx) : k0_pay3 (F := Ideal) a b j = mean (a j) (b j) := by
  show Scalar.select (Ideal.cmp .ogt (b j) (Ideal.ofBits .f32 0x00000000#32))
    (Ideal.div (a j) (max (b j) (Ideal.ofBits .f32 0x3F800000#32))) (Ideal.ofBits .f32 0x00000000#32) = _
  rw [Ideal.ofBits_zero_f32, Ideal.ofBits_one_f32]
  rfl

include hv in
/-- **The idealized kernel's result** at segment `s` and column `k`: the mean of the perceptron's rows whose id is `s`. -/
theorem result_apply (s : Fin 10000) (k : Fin 128) :
    result m c (ix2 s k) = mean (segSum (ids m c) (fun i => row m c i k) s.val) (segSum (ids m c) (fun _ => 1) s.val) := by
  have hs : s.val < 10512 := by have := s.isLt; omega
  obtain ⟨e1, e2⟩ := stAt_all m c hv ⟨s.val, hs⟩ k
  rw [← e1, ← e2]
  refine (pay3_apply _ _ (ix2 s k)).trans ?_
  have e : (Rect.unit (s := S10512x128) ![0, 0] S10000x128.size inb_S10512x128_S10000x128_0_0).emb (ix2 s k) = ix2 ⟨s.val, hs⟩ k :=
    funext fun a => Fin.ext (by
      rw [Rect.emb_apply]
      match a with
      | ⟨0, _⟩ => show 0 + 1 * s.val = s.val; omega
      | ⟨1, _⟩ => show 0 + 1 * k.val = k.val; omega)
  exact congrArg₂ mean (congrArg (stAt m c 25).1 e) (congrArg (stAt m c 25).2 e)

end Cert.Total

end
-- ==== Proof.Val.Scatter.lean ====
/-
  The reference's segment sums over the extended reals: a scatter that adds, into zeros, row `i` of its updates at the row that
  index `i` names holds at each row the sum of the updates whose index names it.
-/
module

public import Idealize.ShloMosaic.Lib.Routing.OpsPair
public import Idealize.ShloMosaic.Lib.ValueIdxRank1
public import Idealize.ShloMosaic.Lib.ValueIdx
public import Idealize.ShloMosaic.PureOps.Ideal.Laws

@[expose] public section

noncomputable section

namespace Cert.Scatter

open Idealize.ShloMosaic
open Idealize.ShloMosaic.ValueIdx

variable {S N C : ℕ}

/-- The dimension numbers of a segment sum of rows: update `(i, n)` goes to row `index i`, column `n`; -/
def rowDims (h : ScatterDims.WF ⟨2, ![S, C]⟩ ⟨2, ![N, 1]⟩ ⟨2, ![N, C]⟩ [1] [0] [0] 1) :
    ScatterDims ⟨2, ![S, C]⟩ ⟨2, ![N, 1]⟩ ⟨2, ![N, C]⟩ where
  updateWindowDims := [1]
  insertedWindowDims := [0]
  scatterDimsToOperandDims := [0]
  indexVectorDim := 1
  wf := h

/-- and of a segment sum of numbers: update `i` goes to place `index i`. -/
def numDims (h : ScatterDims.WF ⟨1, ![S]⟩ ⟨2, ![N, 1]⟩ ⟨1, ![N]⟩ [] [0] [0] 1) :
    ScatterDims ⟨1, ![S]⟩ ⟨2, ![N, 1]⟩ ⟨1, ![N]⟩ where
  updateWindowDims := []
  insertedWindowDims := [0]
  scatterDimsToOperandDims := [0]
  indexVectorDim := 1
  wf := h

/-- Entry `n` of row `i` lands at `(s, k)` just if the row's id is `s` and `n` is `k`. -/
theorem rows_land (h) (idx : IVec ⟨2, ![N, 1]⟩ 32) (i : Fin N) (n : Fin C) (s : Fin S) (k : Fin C) :
    (rowDims (S := S) (N := N) (C := C) h).resultIdx? (ix2 i n) idx = some (ix2 s k) ↔ (idx (ix2 i 0)).toInt = s.val ∧ n = k := by
  have e0 : (rowDims (S := S) h).start (ix2 i n) idx 0 = (idx (ix2 i 0)).toInt := by
    unfold ScatterDims.start
    refine (dif_pos (show (0 : Fin 2) ∈ [(0 : Fin 2)] from List.mem_singleton.2 rfl)).trans ?_
    refine congrArg (fun b => (idx b).toInt) (funext fun b => ?_)
    match b with
    | ⟨0, _⟩ => exact Fin.ext rfl
    | ⟨1, _⟩ => exact Subsingleton.elim (α := Fin 1) _ _
  have e1 : (rowDims (S := S) h).start (ix2 i n) idx 1 = 0 := by
    unfold ScatterDims.start
    exact dif_neg (show ¬(1 : Fin 2) ∈ [(0 : Fin 2)] by decide)
  have w0 : (rowDims (S := S) (N := N) h).window (ix2 i n) 0 = 0 := rfl
  have w1 : (rowDims (S := S) (N := N) h).window (ix2 i n) 1 = n.val := rfl
  rw [Routing.resultIdx?_ix2, e0, e1, w0, w1, Fin.ext_iff]
  omega

/-- Number `i` lands at `s` just if its id is `s`. -/
theorem nums_land (h) (idx : IVec ⟨2, ![N, 1]⟩ 32) (i : Fin N) (s : Fin S) :
    (numDims (S := S) (N := N) h).resultIdx? (ix1 i) idx = some (ix1 s) ↔ (idx (ix2 i 0)).toInt = s.val := by
  have e0 : (numDims (S := S) h).start (ix1 i) idx 0 = (idx (ix2 i 0)).toInt := by
    unfold ScatterDims.start
    refine (dif_pos (show (0 : Fin 1) ∈ [(0 : Fin 1)] from List.mem_singleton.2 rfl)).trans ?_
    refine congrArg (fun b => (idx b).toInt) (funext fun b => ?_)
    match b with
    | ⟨0, _⟩ => exact Fin.ext rfl
    | ⟨1, _⟩ => exact Subsingleton.elim (α := Fin 1) _ _
  have w0 : (numDims (S := S) (N := N) h).window (ix1 i) 0 = 0 := rfl
  rw [Routing.resultIdx?_ix1, e0, w0]
  omega

/-- The segment sum of rows. -/
theorem rows_sum (h) (x : FVec Ideal ⟨2, ![S, C]⟩ .f32) (idx : IVec ⟨2, ![N, 1]⟩ 32) (u : FVec Ideal ⟨2, ![N, C]⟩ .f32) (s : Fin S) (k : Fin C)
    (hx : x (ix2 s k) = (0 : EReal)) :
    Host.scatterAdd (rowDims (S := S) (N := N) (C := C) h) x idx u (ix2 s k)
      = ∑ i : Fin N, if (idx (ix2 i 0)).toInt = s.val then (u (ix2 i k) : EReal) else 0 := by
  show Ideal.hostScatterAdd _ x idx u (ix2 s k) = _
  unfold Ideal.hostScatterAdd
  rw [hx, zero_add, Finset.sum_filter, sum_idx2]
  refine Finset.sum_congr rfl fun i _ => ?_
  rw [Finset.sum_congr rfl fun n _ => if_congr (rows_land h idx i n s k) rfl rfl]
  by_cases hi : (idx (ix2 i 0)).toInt = s.val
  · rw [if_pos hi, Finset.sum_eq_single k (fun n _ hn => if_neg fun e => hn e.2) fun hk => absurd (Finset.mem_univ k) hk, if_pos ⟨hi, rfl⟩]
  · rw [if_neg hi]
    exact Finset.sum_eq_zero fun n _ => if_neg fun e => hi e.1

/-- The segment sum of numbers. -/
theorem nums_sum (h) (x : FVec Ideal ⟨1, ![S]⟩ .f32) (idx : IVec ⟨2, ![N, 1]⟩ 32) (u : FVec Ideal ⟨1, ![N]⟩ .f32) (s : Fin S)
    (hx : x (ix1 s) = (0 : EReal)) :
    Host.scatterAdd (numDims (S := S) (N := N) h) x idx u (ix1 s)
      = ∑ i : Fin N, if (idx (ix2 i 0)).toInt = s.val then (u (ix1 i) : EReal) else 0 := by
  show Ideal.hostScatterAdd _ x idx u (ix1 s) = _
  unfold Ideal.hostScatterAdd
  rw [hx, zero_add, Finset.sum_filter, ← Equiv.sum_comp (idxEquiv1 (n := N)).symm]
  exact Finset.sum_congr rfl fun i _ => if_congr (nums_land h idx i s) rfl rfl

end Cert.Scatter

end
-- ==== Proof.Val.Reference.lean ====
/-
  The reference's result, entry by entry: at each segment the mean of the perceptron's rows whose id names it. It is the same
  expression in the arguments as the idealized kernel's.
-/
module

public import proofs.«01_k».proof.Proof.Val.Total
public import proofs.«01_k».proof.Proof.Val.Scatter
public import proofs.«01_k».proof.Proof.Gen.ReferenceIdeal
public import proofs.«01_k».proof.Proof.Gen.ReferenceIdeal.Run

@[expose] public section

noncomputable section

namespace Cert.RefVal

open Cert.ReferenceIdeal Cert.ReferenceIdeal.Gen Cert.Mlp Cert.Total Cert.Scatter
open Idealize.ShloMosaic hiding ix1 ix2 ix3 eq_ix2
open Idealize.ShloMosaic.ValueIdx Idealize.ShloMosaic.TcCoe

/-- The reference's perceptron of all rows. -/
def rows (x : FVec Ideal S320000x128 .f32) (W1 : FVec Ideal S128x32 .f32) (b1 : FVec Ideal S32 .f32) (W2 : FVec Ideal S32x64 .f32)
    (b2 : FVec Ideal S64 .f32) (W3 : FVec Ideal S64x128 .f32) (b3 : FVec Ideal S128 .f32) : FVec Ideal S320000x128 .f32 :=
  addf (Host.dotGeneral dot_S320000x64_S64x128_S320000x128_1_0_0_1_n_n none (maximumf (addf (Host.dotGeneral dot_S320000x32_S32x64_S320000x64_1_0_0_1_n_n none (maximumf (addf (Host.dotGeneral dot_S320000x128_S128x32_S320000x32_1_0_0_1_n_n none x W1) (broadcastInDim S320000x32 ![0, 1] bcast_S1x32_S320000x32_0_1 (broadcastInDim S1x32 ![1] bcast_S32_S1x32_1 b1))) (broadcastInDim S320000x32 ![] bcast_S_S320000x32 (constant S_ .f32 0x00000000#32))) W2) (broadcastInDim S320000x64 ![0, 1] bcast_S1x64_S320000x64_0_1 (broadcastInDim S1x64 ![1] bcast_S64_S1x64_1 b2))) (broadcastInDim S320000x64 ![] bcast_S_S320000x64 (constant S_ .f32 0x00000000#32))) W3) (broadcastInDim S320000x128 ![0, 1] bcast_S1x128_S320000x128_0_1 (broadcastInDim S1x128 ![1] bcast_S128_S1x128_1 b3))

/-- The reference's row counts. -/
def counts (ids : IVec S320000 32) : FVec Ideal S10000 .f32 :=
  Host.scatterAdd scatter_S10000_S320000x1_S320000_n_0_0_1 (broadcastInDim S10000 ![] bcast_S_S10000 (constant S_ .f32 0x00000000#32)) (broadcastInDim S320000x1 ![0] bcast_S320000_S320000x1_0 ids) (broadcastInDim S320000 ![] bcast_S_S320000 (constant S_ .f32 0x3F800000#32))

/-- The reference's segment sums. -/
def sums (ids : IVec S320000 32) (y : FVec Ideal S320000x128 .f32) : FVec Ideal S10000x128 .f32 :=
  Host.scatterAdd scatter_S10000x128_S320000x1_S320000x128_1_0_0_1 (broadcastInDim S10000x128 ![] bcast_S_S10000x128 (constant S_ .f32 0x00000000#32)) (broadcastInDim S320000x1 ![0] bcast_S320000_S320000x1_0 ids) y

/-- The reference's quotient. -/
def quotient (su : FVec Ideal S10000x128 .f32) (cn : FVec Ideal S10000 .f32) : FVec Ideal S10000x128 .f32 :=
  select (broadcastInDim S10000x128 ![0, 1] bcast_S10000x1_S10000x128_0_1 (cmpf .ogt (broadcastInDim S10000x1 ![0] bcast_S10000_S10000x1_0 cn) (broadcastInDim S10000x1 ![] bcast_S_S10000x1 (constant S_ .f32 0x00000000#32)))) (Host.divf su (broadcastInDim S10000x128 ![0, 1] bcast_S10000x1_S10000x128_0_1 (maximumf (broadcastInDim S10000x1 ![0] bcast_S10000_S10000x1_0 cn) (broadcastInDim S10000x1 ![] bcast_S_S10000x1 (constant S_ .f32 0x3F800000#32))))) (broadcastInDim S10000x128 ![] bcast_S_S10000x128 (id (constant S_ .f32 0x00000000#32)))

/-- A column of numbers laid along every column, read at an entry. -/
theorem lane_apply {α : Type} {M N : ℕ} (h : (⟨2, ![M, 1]⟩ : Shape).BroadcastsInDim ⟨2, ![M, N]⟩ ![0, 1]) (x : (⟨2, ![M, 1]⟩ : Shape).Idx → α)
    (s : Fin M) (k : Fin N) : broadcastInDim ⟨2, ![M, N]⟩ ![0, 1] h x (ix2 s k) = x (ix2 s (0 : Fin 1)) :=
  broadcastInDim_apply ![0, 1] h x (ix2 s k) (ix2 s (0 : Fin 1)) fun a => by
    match a with
    | ⟨0, _⟩ => show s.val = if M = 1 then 0 else s.val; have := s.isLt; split <;> omega
    | ⟨1, _⟩ => rfl

/-- A vector as a column, read at an entry. -/
theorem column_apply {α : Type} {M : ℕ} (h : (⟨1, ![M]⟩ : Shape).BroadcastsInDim ⟨2, ![M, 1]⟩ ![0]) (x : (⟨1, ![M]⟩ : Shape).Idx → α)
    (s : Fin M) : broadcastInDim ⟨2, ![M, 1]⟩ ![0] h x (ix2 s (0 : Fin 1)) = x (ix1 s) :=
  broadcastInDim_apply ![0] h x (ix2 s (0 : Fin 1)) (ix1 s) fun a => by
    match a with
    | ⟨0, _⟩ => show s.val = if M = 1 then 0 else s.val; have := s.isLt; split <;> omega

/-- Row `i` of the reference's perceptron. -/
theorem rows_apply (x : FVec Ideal S320000x128 .f32) (W1 : FVec Ideal S128x32 .f32) (b1 : FVec Ideal S32 .f32) (W2 : FVec Ideal S32x64 .f32)
    (b2 : FVec Ideal S64 .f32) (W3 : FVec Ideal S64x128 .f32) (b3 : FVec Ideal S128 .f32) (i : Fin 320000) (n : Fin 128) :
    rows x W1 b1 W2 b2 W3 b3 (ix2 i n) = mlp (fun k => x (ix2 i k)) W1 b1 W2 b2 W3 b3 n := by
  refine (host_layer (M := 320000) (K := 64) (N := 128) _ W3 b3 bcast_S128_S1x128_1 bcast_S1x128_S320000x128_0_1 i n).trans ?_
  refine congrArg (fun g => layer g W3 b3 n) (funext fun l => ?_)
  refine (relu_apply (M := 320000) (N := 64) _ _ (ix2 i l) Ideal.ofBits_zero_f32).trans (congrArg (max · (0 : EReal)) ?_)
  refine (host_layer (M := 320000) (K := 32) (N := 64) _ W2 b2 bcast_S64_S1x64_1 bcast_S1x64_S320000x64_0_1 i l).trans ?_
  refine congrArg (fun g => layer g W2 b2 l) (funext fun j => ?_)
  refine (relu_apply (M := 320000) (N := 32) _ _ (ix2 i j) Ideal.ofBits_zero_f32).trans (congrArg (max · (0 : EReal)) ?_)
  exact host_layer (M := 320000) (K := 128) (N := 32) x W1 b1 bcast_S32_S1x32_1 bcast_S1x32_S320000x32_0_1 i j

/-- The count of a segment is the number of ids that name it. -/
theorem counts_apply (ids : IVec S320000 32) (s : Fin 10000) : counts ids (ix1 s) = segSum ids (fun _ => 1) s.val := by
  refine (nums_sum (S := 10000) (N := 320000) scatter_S10000_S320000x1_S320000_n_0_0_1_wf _ _ _ s Ideal.ofBits_zero_f32).trans ?_
  refine Finset.sum_congr rfl fun i _ => ?_
  rw [column_apply]
  refine if_congr Iff.rfl ?_ rfl
  exact Ideal.ofBits_one_f32

/-- The sum of a segment is over the rows whose id names it. -/
theorem sums_apply (ids : IVec S320000 32) (y : FVec Ideal S320000x128 .f32) (s : Fin 10000) (k : Fin 128) :
    sums ids y (ix2 s k) = segSum ids (fun i => y (ix2 i k)) s.val := by
  refine (rows_sum (S := 10000) (N := 320000) (C := 128) scatter_S10000x128_S320000x1_S320000x128_1_0_0_1_wf _ _ _ s k
    Ideal.ofBits_zero_f32).trans ?_
  refine Finset.sum_congr rfl fun i _ => ?_
  rw [column_apply]

/-- The quotient at an entry is the mean of that entry's sum and its segment's count. -/
theorem quotient_apply (su : FVec Ideal S10000x128 .f32) (cn : FVec Ideal S10000 .f32) (s : Fin 10000) (k : Fin 128) :
    quotient su cn (ix2 s k) = mean (su (ix2 s k)) (cn (ix1 s)) := by
  have test := lane_apply bcast_S10000x1_S10000x128_0_1 (cmpf (F := Ideal) .ogt (broadcastInDim S10000x1 ![0] bcast_S10000_S10000x1_0 cn)
    (broadcastInDim S10000x1 ![] bcast_S_S10000x1 (constant S_ .f32 0x00000000#32))) s k
  have den := lane_apply bcast_S10000x1_S10000x128_0_1 (maximumf (F := Ideal) (broadcastInDim S10000x1 ![0] bcast_S10000_S10000x1_0 cn)
    (broadcastInDim S10000x1 ![] bcast_S_S10000x1 (constant S_ .f32 0x3F800000#32))) s k
  have col := column_apply bcast_S10000_S10000x1_0 cn s
  refine (congrArg₂ (fun t d => Scalar.select t (Ideal.div (su (ix2 s k)) d) (Ideal.ofBits .f32 0x00000000#32)) test den).trans ?_
  refine (congrArg (fun q => Scalar.select (Ideal.cmp .ogt q (Ideal.ofBits .f32 0x00000000#32))
    (Ideal.div (su (ix2 s k)) (max q (Ideal.ofBits .f32 0x3F800000#32))) (Ideal.ofBits .f32 0x00000000#32)) col).trans ?_
  rw [Ideal.ofBits_zero_f32, Ideal.ofBits_one_f32]
  rfl

/-- **The reference's result** at segment `s` and column `k`: the mean of the perceptron's rows whose id is `s`. -/
theorem reference_apply (x : FVec Ideal S320000x128 .f32) (ids : IVec S320000 32) (W1 : FVec Ideal S128x32 .f32) (b1 : FVec Ideal S32 .f32)
    (W2 : FVec Ideal S32x64 .f32) (b2 : FVec Ideal S64 .f32) (W3 : FVec Ideal S64x128 .f32) (b3 : FVec Ideal S128 .f32)
    (s : Fin 10000) (k : Fin 128) :
    quotient (sums ids (rows x W1 b1 W2 b2 W3 b3)) (counts ids) (ix2 s k)
      = mean (segSum ids (fun i => mlp (fun k => x (ix2 i k)) W1 b1 W2 b2 W3 b3 k) s.val) (segSum ids (fun _ => 1) s.val) := by
  rw [quotient_apply, sums_apply, counts_apply]
  refine congrArg (fun g => mean (segSum ids g s.val) _) (funext fun i => ?_)
  exact rows_apply x W1 b1 W2 b2 W3 b3 i k

end Cert.RefVal

end
-- ==== Proof.Val.Equation.lean ====
/-
  The value claim: from memories that agree on the arguments, the idealized kernel and the reference end with the same result.
-/
module

public import proofs.«01_k».proof.Proof.Frames
public import proofs.«01_k».proof.Proof.Val.Reference

@[expose] public section

noncomputable section

namespace Cert.Equation

open Idealize.ShloMosaic Idealize.SL.Sem Idealize.ShloMosaic.TcCoe

/-- The reference's result of the kernel's arguments is the kernel's. -/
theorem value (m : (ℓ : Loc Cert.KernelIdeal.nD Cert.KernelIdeal.τ Cert.KernelIdeal.sig) → Buf (Elt Ideal) ℓ)
    (h : Cert.Pre_KernelIdeal m) (c : Dev Cert.KernelIdeal.nD) :
    Cert.RefVal.quotient
      (Cert.RefVal.sums (m ((c : Thread Cert.KernelIdeal.nD Cert.KernelIdeal.τ).loc Cert.KernelIdeal.main_arg1))
        (Cert.RefVal.rows (m ((c : Thread Cert.KernelIdeal.nD Cert.KernelIdeal.τ).loc Cert.KernelIdeal.main_arg0))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7))
          (m ((c : Thread Cert.KernelIdeal.nD Cert.KernelIdeal.τ).loc Cert.KernelIdeal.main_arg8))
          (m ((c : Thread Cert.KernelIdeal.nD Cert.KernelIdeal.τ).loc Cert.KernelIdeal.main_arg9))))
      (Cert.RefVal.counts (m ((c : Thread Cert.KernelIdeal.nD Cert.KernelIdeal.τ).loc Cert.KernelIdeal.main_arg1)))
      = Cert.KI.result m c := funext fun j => by
  obtain ⟨s, k, rfl⟩ : ∃ (s : Fin 10000) (k : Fin 128), j = ValueIdx.ix2 s k := ⟨j 0, j 1, ValueIdx.eq_ix2 j⟩
  exact (Cert.RefVal.reference_apply _ _ _ _ _ _ _ _ s k).trans
    (Cert.Total.result_apply m c (Cert.FramesProof.inRange_ideal m h c) s k).symm

/-- **The value claim.** -/
theorem algebraic : Cert.algebraic_KernelIdeal_ReferenceIdeal := fun m g m' g' h agree =>
  ⟨fun c => Cert.KI.result m c,
    (θ_run Cert.KernelIdeal.defs _ _).mono (fun _ e => e.1)
      (Cert.KI.run m g fun c t => Cert.Seg.good_of_inRange (Cert.FramesProof.inRange_ideal m h c t)),
    (θ_run Cert.ReferenceIdeal.defs _ _).mono (fun _ e c => ⟨(e c).1.trans (by
        obtain ⟨a0, a1, _, _, a4, a5, a6, a7, a8, a9⟩ := agree c
        rw [a0, a1, a4, a5, a6, a7, a8, a9]
        exact value m h c), (e c).2⟩)
      (Cert.ReferenceIdeal.Value.run m' g')⟩

end Cert.Equation

end
-- ==== Proof.lean ====
/-
  The certificate's claims, assembled: the frames of the kernel, of its idealization and of the reference (Proof/Frames.lean),
  that idealizing rewrote nothing, and that the idealized kernel computes what the reference does (Proof/Val/Equation.lean). The witnesses of the programs' stated facts come first.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_ids_in_range
public import proofs.«01_k».proof.Proof.Frames
public import proofs.«01_k».proof.Proof.Val.Equation

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_ids_in_range.Gen.facts,
    Cert.FramesProof.kernel, Cert.FramesProof.kernelIdeal, Cert.FramesProof.referenceIdeal,
    Cert.FramesProof.referenceIdeal_pre, trivial, Cert.Equation.algebraic⟩

end Cert.Proof

end
